-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v17)) (v7 : (c : Dev Cert.KernelIdeal.nD) → Buf (Elt Ideal) ((c.tc : Thread Cert.KernelIdeal.nD Cert.KernelIdeal.τ).loc Cert.KernelIdeal.main_v19)) (v8 : (c : Dev Cert.KernelIdeal.nD) → Buf (Elt Ideal) ((c.tc : Thread Cert.KernelIdeal.nD Cert.KernelIdeal.τ).loc Cert.KernelIdeal.main_v21)) (v9 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_v17) = v6 c
          ∧ r.2.mem ((c.tc : Thread Cert.KernelIdeal.nD Cert.KernelIdeal.τ).loc Cert.KernelIdeal.main_v19) = v7 c
          ∧ r.2.mem ((c.tc : Thread Cert.KernelIdeal.nD Cert.KernelIdeal.τ).loc Cert.KernelIdeal.main_v21) = v8 c
          ∧ r.2.mem ((c.tc : Thread Cert.KernelIdeal.nD Cert.KernelIdeal.τ).loc Cert.KernelIdeal.main_v23) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_v10) = v5 c
          ∧ r.2.mem ((c.tc : Thread Cert.ReferenceIdeal.nD Cert.ReferenceIdeal.τ).loc Cert.ReferenceIdeal.main_v12) = v6 c
          ∧ r.2.mem ((c.tc : Thread Cert.ReferenceIdeal.nD Cert.ReferenceIdeal.τ).loc Cert.ReferenceIdeal.main_v14) = v7 c
          ∧ r.2.mem ((c.tc : Thread Cert.ReferenceIdeal.nD Cert.ReferenceIdeal.τ).loc Cert.ReferenceIdeal.main_v16) = v8 c
          ∧ r.2.mem ((c.tc : Thread Cert.ReferenceIdeal.nD Cert.ReferenceIdeal.τ).loc Cert.ReferenceIdeal.main_v18) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12 : Shape := ⟨1, ![12]⟩
abbrev S4x7 : Shape := ⟨2, ![4, 7]⟩
abbrev S2x3x4 : Shape := ⟨3, ![2, 3, 4]⟩
abbrev S5x5x5x5 : Shape := ⟨4, ![5, 5, 5, 5]⟩
abbrev S216 : Shape := ⟨1, ![216]⟩
abbrev S28 : Shape := ⟨1, ![28]⟩
abbrev S24 : Shape := ⟨1, ![24]⟩
abbrev S625 : Shape := ⟨1, ![625]⟩
abbrev S689 : Shape := ⟨1, ![689]⟩
abbrev S_ : Shape := ⟨0, ![]⟩
abbrev S3 : Shape := ⟨1, ![3]⟩
abbrev S6 : Shape := ⟨1, ![6]⟩
abbrev S2x3 : Shape := ⟨2, ![2, 3]⟩
abbrev S2x6 : Shape := ⟨2, ![2, 6]⟩
abbrev S2x3x1 : Shape := ⟨3, ![2, 3, 1]⟩
abbrev S8 : Shape := ⟨1, ![8]⟩
abbrev S2x1x4 : Shape := ⟨3, ![2, 1, 4]⟩
abbrev S40 : Shape := ⟨1, ![40]⟩
abbrev S2x1x4x5 : Shape := ⟨4, ![2, 1, 4, 5]⟩

abbrev nBuf : Table → Nat
  | .hbm => 29
  | .local .scVector .vmem => 2
  | _ => 0

abbrev bufTy : (tb : Table) → Fin (nBuf tb) → BufTy
  | .hbm, ⟨0, _⟩ => ⟨S12, .f32⟩
  | .hbm, ⟨1, _⟩ => ⟨S4x7, .f32⟩
  | .hbm, ⟨2, _⟩ => ⟨S2x3x4, .f32⟩
  | .hbm, ⟨3, _⟩ => ⟨S5x5x5x5, .f32⟩
  | .hbm, ⟨4, _⟩ => ⟨S216, .i32⟩
  | .hbm, ⟨5, _⟩ => ⟨S28, .f32⟩
  | .hbm, ⟨6, _⟩ => ⟨S24, .f32⟩
  | .hbm, ⟨7, _⟩ => ⟨S625, .f32⟩
  | .hbm, ⟨8, _⟩ => ⟨S689, .f32⟩
  | .hbm, ⟨9, _⟩ => ⟨S216, .f32⟩
  | .hbm, ⟨10, _⟩ => ⟨S3, .f32⟩
  | .hbm, ⟨11, _⟩ => ⟨S6, .f32⟩
  | .hbm, ⟨12, _⟩ => ⟨S2x3, .f32⟩
  | .hbm, ⟨13, _⟩ => ⟨S12, .f32⟩
  | .hbm, ⟨14, _⟩ => ⟨S2x6, .f32⟩
  | .hbm, ⟨15, _⟩ => ⟨S6, .f32⟩
  | .hbm, ⟨16, _⟩ => ⟨S2x3x1, .f32⟩
  | .hbm, ⟨17, _⟩ => ⟨S6, .f32⟩
  | .hbm, ⟨18, _⟩ => ⟨S2x3x1, .f32⟩
  | .hbm, ⟨19, _⟩ => ⟨S8, .f32⟩
  | .hbm, ⟨20, _⟩ => ⟨S2x1x4, .f32⟩
  | .hbm, ⟨21, _⟩ => ⟨S40, .f32⟩
  | .hbm, ⟨22, _⟩ => ⟨S2x1x4x5, .f32⟩
  | .hbm, ⟨23, _⟩ => ⟨S40, .f32⟩
  | .hbm, ⟨24, _⟩ => ⟨S2x1x4x5, .f32⟩
  | .hbm, ⟨25, _⟩ => ⟨S40, .f32⟩
  | .hbm, ⟨26, _⟩ => ⟨S2x1x4x5, .f32⟩
  | .hbm, ⟨27, _⟩ => ⟨S40, .f32⟩
  | .hbm, ⟨28, _⟩ => ⟨S2x1x4x5, .f32⟩
  | .local .scVector .vmem, ⟨0, _⟩ => ⟨S216, .i32⟩
  | .local .scVector .vmem, ⟨1, _⟩ => ⟨S216, .f32⟩
  | _, _ => ⟨S12, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v3_scv : Ref sig .scVector := ⟨.hbm, 8, rfl⟩
abbrev main_c_scv : Ref sig .scVector := ⟨.hbm, 4, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S12 : Shape := ⟨1, ![12]⟩
abbrev S4x7 : Shape := ⟨2, ![4, 7]⟩
abbrev S2x3x4 : Shape := ⟨3, ![2, 3, 4]⟩
abbrev S5x5x5x5 : Shape := ⟨4, ![5, 5, 5, 5]⟩
abbrev S3 : Shape := ⟨1, ![3]⟩
abbrev S2x3 : Shape := ⟨2, ![2, 3]⟩
abbrev S2x6 : Shape := ⟨2, ![2, 6]⟩
abbrev S2x3x1 : Shape := ⟨3, ![2, 3, 1]⟩
abbrev S2x1x4 : Shape := ⟨3, ![2, 1, 4]⟩
abbrev S2x1x4x5 : Shape := ⟨4, ![2, 1, 4, 5]⟩
abbrev S_ : Shape := ⟨0, ![]⟩
abbrev S3x1 : Shape := ⟨2, ![3, 1]⟩
abbrev S1 : Shape := ⟨1, ![1]⟩
abbrev S1x1 : Shape := ⟨2, ![1, 1]⟩
abbrev S4x3 : Shape := ⟨2, ![4, 3]⟩
abbrev S1x1x1 : Shape := ⟨3, ![1, 1, 1]⟩
abbrev S2x7 : Shape := ⟨2, ![2, 7]⟩
abbrev S2x6x1 : Shape := ⟨3, ![2, 6, 1]⟩
abbrev S2x4x1 : Shape := ⟨3, ![2, 4, 1]⟩
abbrev S2x4 : Shape := ⟨2, ![2, 4]⟩
abbrev S5x1x4x5 : Shape := ⟨4, ![5, 1, 4, 5]⟩
abbrev S2x4x5x1 : Shape := ⟨4, ![2, 4, 5, 1]⟩
abbrev S1x1x1x1 : Shape := ⟨4, ![1, 1, 1, 1]⟩
abbrev S2x4x5 : Shape := ⟨3, ![2, 4, 5]⟩
abbrev S2x5x4x5 : Shape := ⟨4, ![2, 5, 4, 5]⟩
abbrev S2x1x4x5x1 : Shape := ⟨5, ![2, 1, 4, 5, 1]⟩
abbrev S1x1x1x1x1 : Shape := ⟨5, ![1, 1, 1, 1, 1]⟩
abbrev S2x1x5x5 : Shape := ⟨4, ![2, 1, 5, 5]⟩

abbrev nBuf : Space → Nat
  | .hbm => 244
  | .vmem => 0
  | .smem => 0
  | _ => 0

abbrev hbmTy0_0 (i : Nat) : BufTy := match i % 128 with
  | 0 => ⟨S12, .f32⟩
  | 1 => ⟨S4x7, .f32⟩
  | 2 => ⟨S2x3x4, .f32⟩
  | 3 => ⟨S5x5x5x5, .f32⟩
  | 4 => ⟨S3, .i32⟩
  | 5 => ⟨S2x3, .i32⟩
  | 6 => ⟨S2x6, .i32⟩
  | 7 => ⟨S2x3x1, .i32⟩
  | 8 => ⟨S2x3x1, .i32⟩
  | 9 => ⟨S2x1x4, .i32⟩
  | 10 => ⟨S2x1x4x5, .i32⟩
  | 11 => ⟨S_, .i32⟩
  | 12 => ⟨S3, .i32⟩
  | 13 => ⟨S3, .i1⟩
  | 14 => ⟨S_, .i32⟩
  | 15 => ⟨S3, .i32⟩
  | 16 => ⟨S3, .i32⟩
  | 17 => ⟨S3, .i32⟩
  | 18 => ⟨S3x1, .i32⟩
  | 19 => ⟨S1, .i32⟩
  | 20 => ⟨S_, .i32⟩
  | 21 => ⟨S3x1, .i32⟩
  | 22 => ⟨S3x1, .i1⟩
  | 23 => ⟨S1x1, .i32⟩
  | 24 => ⟨S3x1, .i32⟩
  | 25 => ⟨S3x1, .i1⟩
  | 26 => ⟨S3x1, .i1⟩
  | 27 => ⟨S_, .i1⟩
  | 28 => ⟨S3, .i1⟩
  | 29 => ⟨S3, .f32⟩
  | 30 => ⟨S_, .f32⟩
  | 31 => ⟨S3, .f32⟩
  | 32 => ⟨S3, .f32⟩
  | 33 => ⟨S4x3, .f32⟩
  | 34 => ⟨S_, .i32⟩
  | 35 => ⟨S2x3, .i32⟩
  | 36 => ⟨S2x3, .i1⟩
  | 37 => ⟨S_, .i32⟩
  | 38 => ⟨S2x3, .i32⟩
  | 39 => ⟨S2x3, .i32⟩
  | 40 => ⟨S2x3, .i32⟩
  | 41 => ⟨S2x3x1, .i32⟩
  | 42 => ⟨S1, .i32⟩
  | 43 => ⟨S_, .i32⟩
  | 44 => ⟨S2x3x1, .i32⟩
  | 45 => ⟨S2x3x1, .i1⟩
  | 46 => ⟨S1x1x1, .i32⟩
  | 47 => ⟨S2x3x1, .i32⟩
  | 48 => ⟨S2x3x1, .i1⟩
  | 49 => ⟨S2x3x1, .i1⟩
  | 50 => ⟨S_, .i1⟩
  | 51 => ⟨S2x3, .i1⟩
  | 52 => ⟨S2x3, .f32⟩
  | 53 => ⟨S_, .f32⟩
  | 54 => ⟨S2x3, .f32⟩
  | 55 => ⟨S2x3, .f32⟩
  | 56 => ⟨S2x7, .f32⟩
  | 57 => ⟨S_, .i32⟩
  | 58 => ⟨S2x6, .i32⟩
  | 59 => ⟨S2x6, .i1⟩
  | 60 => ⟨S_, .i32⟩
  | 61 => ⟨S2x6, .i32⟩
  | 62 => ⟨S2x6, .i32⟩
  | 63 => ⟨S2x6, .i32⟩
  | 64 => ⟨S2x6x1, .i32⟩
  | 65 => ⟨S1, .i32⟩
  | 66 => ⟨S_, .i32⟩
  | 67 => ⟨S2x6x1, .i32⟩
  | 68 => ⟨S2x6x1, .i1⟩
  | 69 => ⟨S1x1x1, .i32⟩
  | 70 => ⟨S2x6x1, .i32⟩
  | 71 => ⟨S2x6x1, .i1⟩
  | 72 => ⟨S2x6x1, .i1⟩
  | 73 => ⟨S_, .i1⟩
  | 74 => ⟨S2x6, .i1⟩
  | 75 => ⟨S2x6, .f32⟩
  | 76 => ⟨S_, .f32⟩
  | 77 => ⟨S2x6, .f32⟩
  | 78 => ⟨S2x6, .f32⟩
  | 79 => ⟨S2x3x1, .f32⟩
  | 80 => ⟨S_, .i32⟩
  | 81 => ⟨S2x3x1, .i32⟩
  | 82 => ⟨S2x3x1, .i1⟩
  | 83 => ⟨S_, .i32⟩
  | 84 => ⟨S2x3x1, .i32⟩
  | 85 => ⟨S2x3x1, .i32⟩
  | 86 => ⟨S2x3x1, .i32⟩
  | 87 => ⟨S1, .i32⟩
  | 88 => ⟨S_, .i32⟩
  | 89 => ⟨S2x3x1, .i32⟩
  | 90 => ⟨S2x3x1, .i1⟩
  | 91 => ⟨S1x1x1, .i32⟩
  | 92 => ⟨S2x3x1, .i32⟩
  | 93 => ⟨S2x3x1, .i1⟩
  | 94 => ⟨S2x3x1, .i1⟩
  | 95 => ⟨S_, .i1⟩
  | 96 => ⟨S2x3, .i1⟩
  | 97 => ⟨S2x3x1, .f32⟩
  | 98 => ⟨S2x3x1, .i1⟩
  | 99 => ⟨S_, .f32⟩
  | 100 => ⟨S2x3x1, .f32⟩
  | 101 => ⟨S2x3x1, .f32⟩
  | 102 => ⟨S2x3x1, .f32⟩
  | 103 => ⟨S_, .i32⟩
  | 104 => ⟨S2x3x1, .i32⟩
  | 105 => ⟨S2x3x1, .i1⟩
  | 106 => ⟨S_, .i32⟩
  | 107 => ⟨S2x3x1, .i32⟩
  | 108 => ⟨S2x3x1, .i32⟩
  | 109 => ⟨S2x3x1, .i32⟩
  | 110 => ⟨S1, .i32⟩
  | 111 => ⟨S_, .i32⟩
  | 112 => ⟨S2x3x1, .i32⟩
  | 113 => ⟨S2x3x1, .i1⟩
  | 114 => ⟨S1x1x1, .i32⟩
  | 115 => ⟨S2x3x1, .i32⟩
  | 116 => ⟨S2x3x1, .i1⟩
  | 117 => ⟨S2x3x1, .i1⟩
  | 118 => ⟨S_, .i1⟩
  | 119 => ⟨S2x3, .i1⟩
  | 120 => ⟨S2x3x1, .f32⟩
  | 121 => ⟨S2x3x1, .i1⟩
  | 122 => ⟨S_, .f32⟩
  | 123 => ⟨S2x3x1, .f32⟩
  | 124 => ⟨S2x3x1, .f32⟩
  | 125 => ⟨S2x1x4, .f32⟩
  | 126 => ⟨S_, .i32⟩
  | 127 => ⟨S2x1x4, .i32⟩
  | _ => ⟨S12, .f32⟩

abbrev hbmTy0_1 (i : Nat) : BufTy := match i % 128 with
  | 0 => ⟨S2x1x4, .i1⟩
  | 1 => ⟨S_, .i32⟩
  | 2 => ⟨S2x1x4, .i32⟩
  | 3 => ⟨S2x1x4, .i32⟩
  | 4 => ⟨S2x1x4, .i32⟩
  | 5 => ⟨S2x4x1, .i32⟩
  | 6 => ⟨S1, .i32⟩
  | 7 => ⟨S_, .i32⟩
  | 8 => ⟨S2x4x1, .i32⟩
  | 9 => ⟨S2x4x1, .i1⟩
  | 10 => ⟨S1x1x1, .i32⟩
  | 11 => ⟨S2x4x1, .i32⟩
  | 12 => ⟨S2x4x1, .i1⟩
  | 13 => ⟨S2x4x1, .i1⟩
  | 14 => ⟨S_, .i1⟩
  | 15 => ⟨S2x4, .i1⟩
  | 16 => ⟨S2x1x4, .f32⟩
  | 17 => ⟨S2x1x4, .i1⟩
  | 18 => ⟨S_, .f32⟩
  | 19 => ⟨S2x1x4, .f32⟩
  | 20 => ⟨S2x1x4, .f32⟩
  | 21 => ⟨S5x1x4x5, .f32⟩
  | 22 => ⟨S_, .i32⟩
  | 23 => ⟨S2x1x4x5, .i32⟩
  | 24 => ⟨S2x1x4x5, .i1⟩
  | 25 => ⟨S_, .i32⟩
  | 26 => ⟨S2x1x4x5, .i32⟩
  | 27 => ⟨S2x1x4x5, .i32⟩
  | 28 => ⟨S2x1x4x5, .i32⟩
  | 29 => ⟨S2x4x5x1, .i32⟩
  | 30 => ⟨S1, .i32⟩
  | 31 => ⟨S_, .i32⟩
  | 32 => ⟨S2x4x5x1, .i32⟩
  | 33 => ⟨S2x4x5x1, .i1⟩
  | 34 => ⟨S1x1x1x1, .i32⟩
  | 35 => ⟨S2x4x5x1, .i32⟩
  | 36 => ⟨S2x4x5x1, .i1⟩
  | 37 => ⟨S2x4x5x1, .i1⟩
  | 38 => ⟨S_, .i1⟩
  | 39 => ⟨S2x4x5, .i1⟩
  | 40 => ⟨S2x1x4x5, .f32⟩
  | 41 => ⟨S2x1x4x5, .i1⟩
  | 42 => ⟨S_, .f32⟩
  | 43 => ⟨S2x1x4x5, .f32⟩
  | 44 => ⟨S2x1x4x5, .f32⟩
  | 45 => ⟨S2x5x4x5, .f32⟩
  | 46 => ⟨S_, .i32⟩
  | 47 => ⟨S2x1x4x5, .i32⟩
  | 48 => ⟨S2x1x4x5, .i1⟩
  | 49 => ⟨S_, .i32⟩
  | 50 => ⟨S2x1x4x5, .i32⟩
  | 51 => ⟨S2x1x4x5, .i32⟩
  | 52 => ⟨S2x1x4x5, .i32⟩
  | 53 => ⟨S2x1x4x5x1, .i32⟩
  | 54 => ⟨S1, .i32⟩
  | 55 => ⟨S_, .i32⟩
  | 56 => ⟨S2x1x4x5x1, .i32⟩
  | 57 => ⟨S2x1x4x5x1, .i1⟩
  | 58 => ⟨S1x1x1x1x1, .i32⟩
  | 59 => ⟨S2x1x4x5x1, .i32⟩
  | 60 => ⟨S2x1x4x5x1, .i1⟩
  | 61 => ⟨S2x1x4x5x1, .i1⟩
  | 62 => ⟨S_, .i1⟩
  | 63 => ⟨S2x1x4x5, .i1⟩
  | 64 => ⟨S2x1x4x5, .f32⟩
  | 65 => ⟨S_, .f32⟩
  | 66 => ⟨S2x1x4x5, .f32⟩
  | 67 => ⟨S2x1x4x5, .f32⟩
  | 68 => ⟨S2x1x5x5, .f32⟩
  | 69 => ⟨S_, .i32⟩
  | 70 => ⟨S2x1x4x5, .i32⟩
  | 71 => ⟨S2x1x4x5, .i1⟩
  | 72 => ⟨S_, .i32⟩
  | 73 => ⟨S2x1x4x5, .i32⟩
  | 74 => ⟨S2x1x4x5, .i32⟩
  | 75 => ⟨S2x1x4x5, .i32⟩
  | 76 => ⟨S2x4x5x1, .i32⟩
  | 77 => ⟨S1, .i32⟩
  | 78 => ⟨S_, .i32⟩
  | 79 => ⟨S2x4x5x1, .i32⟩
  | 80 => ⟨S2x4x5x1, .i1⟩
  | 81 => ⟨S1x1x1x1, .i32⟩
  | 82 => ⟨S2x4x5x1, .i32⟩
  | 83 => ⟨S2x4x5x1, .i1⟩
  | 84 => ⟨S2x4x5x1, .i1⟩
  | 85 => ⟨S_, .i1⟩
  | 86 => ⟨S2x4x5, .i1⟩
  | 87 => ⟨S2x1x4x5, .f32⟩
  | 88 => ⟨S2x1x4x5, .i1⟩
  | 89 => ⟨S_, .f32⟩
  | 90 => ⟨S2x1x4x5, .f32⟩
  | 91 => ⟨S2x1x4x5, .f32⟩
  | 92 => ⟨S2x1x4x5, .f32⟩
  | 93 => ⟨S_, .i32⟩
  | 94 => ⟨S2x1x4x5, .i32⟩
  | 95 => ⟨S2x1x4x5, .i1⟩
  | 96 => ⟨S_, .i32⟩
  | 97 => ⟨S2x1x4x5, .i32⟩
  | 98 => ⟨S2x1x4x5, .i32⟩
  | 99 => ⟨S2x1x4x5, .i32⟩
  | 100 => ⟨S2x4x5x1, .i32⟩
  | 101 => ⟨S1, .i32⟩
  | 102 => ⟨S_, .i32⟩
  | 103 => ⟨S2x4x5x1, .i32⟩
  | 104 => ⟨S2x4x5x1, .i1⟩
  | 105 => ⟨S1x1x1x1, .i32⟩
  | 106 => ⟨S2x4x5x1, .i32⟩
  | 107 => ⟨S2x4x5x1, .i1⟩
  | 108 => ⟨S2x4x5x1, .i1⟩
  | 109 => ⟨S_, .i1⟩
  | 110 => ⟨S2x4x5, .i1⟩
  | 111 => ⟨S2x1x4x5, .f32⟩
  | 112 => ⟨S2x1x4x5, .i1⟩
  | 113 => ⟨S_, .f32⟩
  | 114 => ⟨S2x1x4x5, .f32⟩
  | 115 => ⟨S2x1x4x5, .f32⟩
  | _ => ⟨S12, .f32⟩

abbrev hbmTy (i : Nat) : BufTy := match i / 128 with
  | 0 => hbmTy0_0 i
  | 1 => hbmTy0_1 i
  | _ => ⟨S12, .f32⟩

abbrev bufTy : (tb : Table) → Fin (tcTables nBuf tb) → BufTy
  | .hbm, ⟨i, _⟩ => hbmTy i
  | _, _ => ⟨S12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v0 : Ref sig .tc := ⟨.hbm, 32, rfl⟩
abbrev main_v1 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v2 : Ref sig .tc := ⟨.hbm, 55, rfl⟩
abbrev main_v3 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v4 : Ref sig .tc := ⟨.hbm, 78, rfl⟩
abbrev main_v5 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_c_2 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_c_3 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_cst : Ref sig .tc := ⟨.hbm, 99, rfl⟩
abbrev main_call3_v14 : Ref sig .tc := ⟨.hbm, 100, rfl⟩
abbrev main_v6 : Ref sig .tc := ⟨.hbm, 101, rfl⟩
abbrev main_v7 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_c_1 : Ref sig .tc := ⟨.hbm, 110, rfl⟩
abbrev main_call4_c_2 : Ref sig .tc := ⟨.hbm, 111, rfl⟩
abbrev main_call4_v5 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_c_3 : Ref sig .tc := ⟨.hbm, 118, rfl⟩
abbrev main_call4_v11 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v8 : Ref sig .tc := ⟨.hbm, 124, rfl⟩
abbrev main_v9 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_call5_cst : Ref sig .tc := ⟨.hbm, 146, rfl⟩
abbrev main_call5_v15 : Ref sig .tc := ⟨.hbm, 147, rfl⟩
abbrev main_v10 : Ref sig .tc := ⟨.hbm, 148, rfl⟩
abbrev main_v11 : Ref sig .tc := ⟨.hbm, 149, rfl⟩
abbrev main_call6_c : Ref sig .tc := ⟨.hbm, 150, rfl⟩
abbrev main_call6_v0 : Ref sig .tc := ⟨.hbm, 151, rfl⟩
abbrev main_call6_v1 : Ref sig .tc := ⟨.hbm, 152, rfl⟩
abbrev main_call6_c_0 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_c_1 : Ref sig .tc := ⟨.hbm, 158, rfl⟩
abbrev main_call6_c_2 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_call6_c_3 : Ref sig .tc := ⟨.hbm, 166, rfl⟩
abbrev main_call6_v12 : Ref sig .tc := ⟨.hbm, 167, rfl⟩
abbrev main_call6_v13 : Ref sig .tc := ⟨.hbm, 168, rfl⟩
abbrev main_call6_v14 : Ref sig .tc := ⟨.hbm, 169, rfl⟩
abbrev main_call6_cst : Ref sig .tc := ⟨.hbm, 170, rfl⟩
abbrev main_call6_v15 : Ref sig .tc := ⟨.hbm, 171, rfl⟩
abbrev main_v12 : Ref sig .tc := ⟨.hbm, 172, rfl⟩
abbrev main_v13 : Ref sig .tc := ⟨.hbm, 173, rfl⟩
abbrev main_call7_c : Ref sig .tc := ⟨.hbm, 174, rfl⟩
abbrev main_call7_v0 : Ref sig .tc := ⟨.hbm, 175, rfl⟩
abbrev main_call7_v1 : Ref sig .tc := ⟨.hbm, 176, rfl⟩
abbrev main_call7_c_0 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_v5 : Ref sig .tc := ⟨.hbm, 181, rfl⟩
abbrev main_call7_c_1 : Ref sig .tc := ⟨.hbm, 182, rfl⟩
abbrev main_call7_c_2 : Ref sig .tc := ⟨.hbm, 183, rfl⟩
abbrev main_call7_v6 : Ref sig .tc := ⟨.hbm, 184, rfl⟩
abbrev main_call7_v7 : Ref sig .tc := ⟨.hbm, 185, rfl⟩
abbrev main_call7_v8 : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_call7_c_3 : Ref sig .tc := ⟨.hbm, 190, rfl⟩
abbrev main_call7_v12 : Ref sig .tc := ⟨.hbm, 191, rfl⟩
abbrev main_call7_v13 : Ref sig .tc := ⟨.hbm, 192, rfl⟩
abbrev main_call7_cst : Ref sig .tc := ⟨.hbm, 193, rfl⟩
abbrev main_call7_v14 : Ref sig .tc := ⟨.hbm, 194, rfl⟩
abbrev main_v14 : Ref sig .tc := ⟨.hbm, 195, rfl⟩
abbrev main_v15 : Ref sig .tc := ⟨.hbm, 196, rfl⟩
abbrev main_call8_c : Ref sig .tc := ⟨.hbm, 197, rfl⟩
abbrev main_call8_v0 : Ref sig .tc := ⟨.hbm, 198, rfl⟩
abbrev main_call8_v1 : Ref sig .tc := ⟨.hbm, 199, rfl⟩
abbrev main_call8_c_0 : Ref sig .tc := ⟨.hbm, 200, rfl⟩
abbrev main_call8_v2 : Ref sig .tc := ⟨.hbm, 201, rfl⟩
abbrev main_call8_v3 : Ref sig .tc := ⟨.hbm, 202, rfl⟩
abbrev main_call8_v4 : Ref sig .tc := ⟨.hbm, 203, rfl⟩
abbrev main_call8_v5 : Ref sig .tc := ⟨.hbm, 204, rfl⟩
abbrev main_call8_c_1 : Ref sig .tc := ⟨.hbm, 205, rfl⟩
abbrev main_call8_c_2 : Ref sig .tc := ⟨.hbm, 206, rfl⟩
abbrev main_call8_v6 : Ref sig .tc := ⟨.hbm, 207, rfl⟩
abbrev main_call8_v7 : Ref sig .tc := ⟨.hbm, 208, rfl⟩
abbrev main_call8_v8 : Ref sig .tc := ⟨.hbm, 209, rfl⟩
abbrev main_call8_v9 : Ref sig .tc := ⟨.hbm, 210, rfl⟩
abbrev main_call8_v10 : Ref sig .tc := ⟨.hbm, 211, rfl⟩
abbrev main_call8_v11 : Ref sig .tc := ⟨.hbm, 212, rfl⟩
abbrev main_call8_c_3 : Ref sig .tc := ⟨.hbm, 213, rfl⟩
abbrev main_call8_v12 : Ref sig .tc := ⟨.hbm, 214, rfl⟩
abbrev main_call8_v13 : Ref sig .tc := ⟨.hbm, 215, rfl⟩
abbrev main_call8_v14 : Ref sig .tc := ⟨.hbm, 216, rfl⟩
abbrev main_call8_cst : Ref sig .tc := ⟨.hbm, 217, rfl⟩
abbrev main_call8_v15 : Ref sig .tc := ⟨.hbm, 218, rfl⟩
abbrev main_v16 : Ref sig .tc := ⟨.hbm, 219, rfl⟩
abbrev main_v17 : Ref sig .tc := ⟨.hbm, 220, rfl⟩
abbrev main_call9_c : Ref sig .tc := ⟨.hbm, 221, rfl⟩
abbrev main_call9_v0 : Ref sig .tc := ⟨.hbm, 222, rfl⟩
abbrev main_call9_v1 : Ref sig .tc := ⟨.hbm, 223, rfl⟩
abbrev main_call9_c_0 : Ref sig .tc := ⟨.hbm, 224, rfl⟩
abbrev main_call9_v2 : Ref sig .tc := ⟨.hbm, 225, rfl⟩
abbrev main_call9_v3 : Ref sig .tc := ⟨.hbm, 226, rfl⟩
abbrev main_call9_v4 : Ref sig .tc := ⟨.hbm, 227, rfl⟩
abbrev main_call9_v5 : Ref sig .tc := ⟨.hbm, 228, rfl⟩
abbrev main_call9_c_1 : Ref sig .tc := ⟨.hbm, 229, rfl⟩
abbrev main_call9_c_2 : Ref sig .tc := ⟨.hbm, 230, rfl⟩
abbrev main_call9_v6 : Ref sig .tc := ⟨.hbm, 231, rfl⟩
abbrev main_call9_v7 : Ref sig .tc := ⟨.hbm, 232, rfl⟩
abbrev main_call9_v8 : Ref sig .tc := ⟨.hbm, 233, rfl⟩
abbrev main_call9_v9 : Ref sig .tc := ⟨.hbm, 234, rfl⟩
abbrev main_call9_v10 : Ref sig .tc := ⟨.hbm, 235, rfl⟩
abbrev main_call9_v11 : Ref sig .tc := ⟨.hbm, 236, rfl⟩
abbrev main_call9_c_3 : Ref sig .tc := ⟨.hbm, 237, rfl⟩
abbrev main_call9_v12 : Ref sig .tc := ⟨.hbm, 238, rfl⟩
abbrev main_call9_v13 : Ref sig .tc := ⟨.hbm, 239, rfl⟩
abbrev main_call9_v14 : Ref sig .tc := ⟨.hbm, 240, rfl⟩
abbrev main_call9_cst : Ref sig .tc := ⟨.hbm, 241, rfl⟩
abbrev main_call9_v15 : Ref sig .tc := ⟨.hbm, 242, rfl⟩
abbrev main_v18 : Ref sig .tc := ⟨.hbm, 243, rfl⟩

abbrev nD : Nat := 1
abbrev τ : Topo := Topo.v7x

variable {F : FTy → Type} [FloatOps F]
-- ==== Proof.IdealTask.lean ====
/-
  The SparseCore call of the gather program: what it takes, what it returns, and each tile's task.

  @main joins the four arguments into one array of 689 floats (`flat`), gives it and the table of 216 row numbers
  (`table`) to one SparseCore call, and cuts the 216 floats which that call returns (`gathered`) into ten results. On
  the SparseCore only tile 0 works: it fetches the table, gathers the 216 rows of the joined array which the table
  names, and writes them out. The other fifteen tiles return at once.

  Every statement is generic in the meaning `F` of the floats.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.IdealRun

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.ShloMosaic.StableHlo (held held_sub_split held_congr tcRefs after seq launchContents devRef_mem_tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The labels of the program's bodies. -/
abbrev ΛP : Labels := Pipeline.Sig Λ₀ (Fin 0) fun p => (pcfgs (F := F) p).Adm
/-- The program's one SparseCore call, as the launch takes it. -/
abbrev K : SparseCore.Cfg τ sig (ΛP (F := F)) 1 := sc (F := F)
/-- The bodies other than the call's. -/
abbrev D [FloatOps F] : Defs nD τ sig (Elt F) (ΛP (F := F)) := Pipeline.defs pcfgs defs₀
/-- No loop of the program needs a variant … -/
abbrev 𝒱₀ : Variants := Variants.none
/-- … nor does the launch add any that is used. -/
abbrev 𝒱 : Variants := 𝒱₀.lift
/-- The variant every body starts from. -/
abbrev v₀ : 𝒱.V := Sum.inl none

/-- The four launch semaphores are the program's own, and no buffer is shared between a SparseCore's tiles. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state. -/
abbrev UH : Type := URounds (GSem nD τ sig) ℕ
/-- The ghost state of the whole run. -/
abbrev UU : Type := UH × Counters

local notation "𝕄" => MT nD τ sig (HIx 1) (Elt F) ℕ UU ℕ

/-- The handshakes' part of it. -/
abbrev EH : Emb UH (MT nD τ sig (HIx 1) (Elt F) ℕ UU ℕ) := embL

/-! ## The values -/

variable (m : (ℓ : Loc nD τ sig) → Buf (Elt F) ℓ) (ρ : Dev nD → PrngReg)

/-- The location of a TensorCore array on device `d`. -/
abbrev tcLoc (d : Dev nD) (b : Ref sig .tc) : Loc nD τ sig := (SparseCore.T d).loc b

/-- The row numbers the program carries as a constant: 216 words. -/
def table : S216.Idx → BitVec 32 := fun i => lit0 (S216.rowMajor i)

/-- Every row number names an element of the joined array of 689. -/
theorem lit0_lt : ∀ k : Fin 216, (lit0 k).toNat < 689 := by decide +kernel

/-- The same, as the gather asks it: every row of the table is a row of the joined array. -/
theorem table_lt (x : S216.Idx) : (table x).toNat < S689.size gathers_S689_S216.axis := lit0_lt _

/-- The four arguments laid out one after the other, row by row. -/
def flat (d : Dev nD) : S689.Idx → Elt F .f32 :=
  concatenate S689 0
    [⟨S12, (m (tcLoc d main_arg0) : S12.Idx → Elt F .f32)⟩,
      ⟨S28, shapeCast S28 (m (tcLoc d main_arg1) : S4x7.Idx → Elt F .f32) shapeCasts_S4x7_S28⟩,
      ⟨S24, shapeCast S24 (m (tcLoc d main_arg2) : S2x3x4.Idx → Elt F .f32) shapeCasts_S2x3x4_S24⟩,
      ⟨S625, shapeCast S625 (m (tcLoc d main_arg3) : S5x5x5x5.Idx → Elt F .f32) shapeCasts_S5x5x5x5_S625⟩]
    concatenates_S12_S28_S24_S625_S689_d0

/-- Any array of 689 floats read at the rows of the table. -/
def pick (g : S689.Idx → Elt F .f32) : S216.Idx → Elt F .f32 :=
  SparseCore.gatherPayload gathers_S689_S216 g (SparseCore.rows (F := F) table rfl table_lt)

/-- What the call returns: the joined array read at the rows of the table. -/
def gathered (d : Dev nD) : S216.Idx → Elt F .f32 := pick (flat m d)

/-! ## What the call's handshakes carry -/

/-- Tile 0's assertion is `X`; every other tile's is empty. -/
def firstOnly (n : ℕ) (X : sProp 𝕄) : sProp 𝕄 := if n = 0 then X else iprop(emp)

/-- For tile 0 it is `X` … -/
theorem firstOnly_zero {n : ℕ} (h : n = 0) (X : sProp 𝕄) : firstOnly n X = X := if_pos h
/-- … and for another tile it is empty. -/
theorem firstOnly_ne {n : ℕ} (h : n ≠ 0) (X : sProp 𝕄) : firstOnly n X = iprop(emp) := if_neg h

instance firstOnly_storable (n : ℕ) (X : sProp 𝕄) [BI.Storable (upEmb : UEmb _ 𝕄) X] : BI.Storable (upEmb : UEmb _ 𝕄) (firstOnly n X) := by
  unfold firstOnly; split <;> infer_instance

variable [FloatOps F]

/-- Where the joined array lies. -/
abbrev flatLoc (d : Dev nD) : Loc nD τ sig := tcLoc d main_v3
/-- Where the table lies. -/
abbrev tabLoc (d : Dev nD) : Loc nD τ sig := tcLoc d main_c
/-- Where the call's output lies. -/
abbrev outLoc (d : Dev nD) : Loc nD τ sig := tcLoc d main_v4

/-- The joined array and the table, whole, and the output array at contents `f`. -/
abbrev trio (d : Dev nD) (f : S216.Idx → Elt F .f32) : sProp 𝕄 :=
  iprop((flatLoc d ↦{fullShare} (flat m d : Buf (Elt F) (flatLoc d)))
    ∗ (tabLoc d ↦{fullShare} (table : Buf (Elt F) (tabLoc d)))
    ∗ (outLoc d ↦{fullShare} (f : Buf (Elt F) (outLoc d))))

/-- The call takes the three arrays and returns them, the output at the gathered values; tile 0 has all of them. -/
def P : (K (F := F)).Pay (nD := nD) (Val := Elt F) (Name := ℕ) (U := UU) where
  st := fun q d _ => match q with | 0 => trio m d (m (outLoc d))
  dn := fun q d _ => match q with | 0 => trio m d (gathered m d)
  go := fun q d _ i => match q with | 0 => firstOnly i.val (trio m d (m (outLoc d)))
  td := fun q d _ i => match q with | 0 => firstOnly i.val (trio m d (gathered m d))
  x := fun _ _ => iprop(emp)

instance P_storable : (P (F := F) m).IsStorable where
  st q d _ := match q with | 0 => (inferInstance : BI.Storable (upEmb : UEmb _ 𝕄) (trio m d (m (outLoc d))))
  dn q d _ := match q with | 0 => (inferInstance : BI.Storable (upEmb : UEmb _ 𝕄) (trio m d (gathered m d)))
  go q d _ i := match q with | 0 => firstOnly_storable i.val (trio m d (m (outLoc d)))
  td q d _ i := match q with | 0 => firstOnly_storable i.val (trio m d (gathered m d))

/-! ## A tile's task -/

section Tile

local notation "fV" => (Memref.whole Cert.KernelIdeal.main_v3_scv : Memref Cert.KernelIdeal.sig Kind.scVector Space.hbm Cert.KernelIdeal.S689 EltTy.f32)
local notation "tV" => (Memref.whole Cert.KernelIdeal.main_c_scv : Memref Cert.KernelIdeal.sig Kind.scVector Space.hbm Cert.KernelIdeal.S216 EltTy.i32)
local notation "oV" => (Memref.whole Cert.KernelIdeal.main_v4_scv : Memref Cert.KernelIdeal.sig Kind.scVector Space.hbm Cert.KernelIdeal.S216 EltTy.f32)
local notation "aV" => (Memref.whole Cert.KernelIdeal.cc0_scratch0 : Memref Cert.KernelIdeal.sig Kind.scVector Space.vmem Cert.KernelIdeal.S216 EltTy.i32)
local notation "bV" => (Memref.whole Cert.KernelIdeal.cc0_scratch1 : Memref Cert.KernelIdeal.sig Kind.scVector Space.vmem Cert.KernelIdeal.S216 EltTy.f32)

variable (d : Dev nD) (L : grid0.Coords)

/-- The SparseCore of a grid point. -/
abbrev coreOf (L : grid0.Coords) : Fin τ.nSC := (L 0).castLE hcore0
/-- The tile of a grid point. -/
abbrev tileOf (L : grid0.Coords) : Fin τ.nSub := (L 1).castLE hsub0
/-- The tile's thread. -/
abbrev thr (d : Dev nD) (L : grid0.Coords) : Thread nD τ := V d (coreOf L) (tileOf L)

/-- The joined array as the gather addresses it: all of its 689 elements. -/
abbrev fAll : Memref sig .scVector .hbm S689 .f32 := (fV).slice (Rect.unit (s := S689) ![0] S689.size inb_S689_S689_0) (fun _ => rfl)

/-- The test the task makes of its tile number holds at tile 0 alone. -/
theorem isFirst_iff : ∀ n : Fin 16,
    Scalar.cmpi .ne (Scalar.extui (Scalar.cmpi .eq (BitVec.ofNat 32 n.val) 0#32) : BitVec 32) 0#32 = 1#1 ↔ n.val = 0 := by decide

omit [FloatOps F] in
/-- Reading the joined array through the gather's view of it gives the array. -/
theorem read_fAll (g : Buf (Elt F) ((fAll).view.loc (thr d L))) : (fAll).view.read (Elt F) g = g := by
  funext x
  refine (View.read_apply _ _).trans ((cast_eq _ _).trans (congrArg g ?_))
  funext a
  match a with
  | 0 => exact Fin.ext (show 0 + 1 * (x 0).val = (x 0).val by omega)

omit [FloatOps F] in
/-- The tile names the joined array as the TensorCore does … -/
theorem pts_fV (f : Buf (Elt F) (flatLoc d)) :
    ((fV).view.loc (thr d L) ↦{fullShare} f : sProp 𝕄) = flatLoc d ↦{fullShare} f := rfl
omit [FloatOps F] in
/-- … and so the table … -/
theorem pts_tV (f : Buf (Elt F) (tabLoc d)) :
    ((tV).view.loc (thr d L) ↦{fullShare} f : sProp 𝕄) = tabLoc d ↦{fullShare} f := rfl
omit [FloatOps F] in
/-- … and the output. -/
theorem pts_oV (f : Buf (Elt F) (outLoc d)) :
    ((oV).view.loc (thr d L) ↦{fullShare} f : sProp 𝕄) = outLoc d ↦{fullShare} f := rfl
omit [FloatOps F] in
/-- The first scratch buffer, as the tile's memref names it. -/
theorem pts_aV (f : Buf (Elt F) ((thr d L).loc cc0_scratch0)) :
    ((aV).view.loc (thr d L) ↦{fullShare} f : sProp 𝕄) = (thr d L).loc cc0_scratch0 ↦{fullShare} f := rfl
omit [FloatOps F] in
/-- The second scratch buffer, as the tile's memref names it. -/
theorem pts_bV (f : Buf (Elt F) ((thr d L).loc cc0_scratch1)) :
    ((bV).view.loc (thr d L) ↦{fullShare} f : sProp 𝕄) = (thr d L).loc cc0_scratch1 ↦{fullShare} f := rfl

/-- The cell of one of the task's semaphores on a tile. -/
abbrev cell (t : Thread nD τ) (sm : DmaSems sig S_) : GSem nD τ sig := (t, .dma sm.sem)

omit [FloatOps F] in
/-- A tile's semaphore is one of its own cells. -/
theorem cell_mem (sm : DmaSems sig S_) : cell (thr d L) sm ∈ ownCells (thr d L) :=
  mem_ownCells.mpr ⟨rfl, rfl⟩

omit [FloatOps F] in
/-- Different semaphores are different cells. -/
theorem cell_ne {sm sm' : DmaSems sig S_} (h : sm.sem ≠ sm'.sem) : cell (thr d L) sm ≠ cell (thr d L) sm' :=
  fun e => h (SemLoc.dma.inj (Prod.mk.inj e).2)

omit [FloatOps F] in
/-- The tile's semaphores, all at zero: the gather's, the fetch's, the write-out's, and the rest. -/
theorem ownSems0_tile :
    (ownSems0 (thr d L) : sProp 𝕄)
      = iprop(semVal (cell (thr d L) cc0_scratch2) 0 ∗ semVal (cell (thr d L) cc0_scoped0) 0 ∗ semVal (cell (thr d L) cc0_scoped1) 0
          ∗ bigSep ((((ownCells (thr d L)).erase (cell (thr d L) cc0_scratch2)).erase (cell (thr d L) cc0_scoped0)).erase (cell (thr d L) cc0_scoped1)) fun g => semVal g 0) := by
  unfold SparseCore.Cfg.ownSems0
  rw [SparseCore.bigSep_erase' (cell_mem d L cc0_scratch2),
    SparseCore.bigSep_erase' (Finset.mem_erase.mpr ⟨cell_ne d L (by decide), cell_mem d L cc0_scoped0⟩),
    SparseCore.bigSep_erase' (Finset.mem_erase.mpr ⟨cell_ne d L (by decide), Finset.mem_erase.mpr ⟨cell_ne d L (by decide), cell_mem d L cc0_scoped1⟩⟩)]

omit [FloatOps F] in
/-- The tile's buffers: the list scratch, the row scratch, and the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (coreOf L) (tileOf L))).erase ((Proc.scVector (coreOf L) (tileOf L)).devRef cc0_scratch0)).erase
              ((Proc.scVector (coreOf L) (tileOf L)).devRef cc0_scratch1))
              fun b => iprop(∃ f, ((d, b) : Loc nD τ sig) ↦{fullShare} f)) := by
  have hne : (Proc.scVector (coreOf L) (tileOf L)).devRef cc0_scratch1 ≠ ((Proc.scVector (coreOf L) (tileOf L)).devRef cc0_scratch0 : DevRef τ sig) :=
    fun e => absurd (Proc.devRef_injective _ e) (show (cc0_scratch1 : Ref sig .scVector) ≠ cc0_scratch0 by decide)
  have h0 := SparseCore.Cfg.mem_ownRefs_of_owner (p := Proc.scVector (coreOf L) (tileOf L)) (b := (Proc.scVector (coreOf L) (tileOf L)).devRef (sig := sig) cc0_scratch0) rfl
  have h1 := SparseCore.Cfg.mem_ownRefs_of_owner (p := Proc.scVector (coreOf L) (tileOf L)) (b := (Proc.scVector (coreOf L) (tileOf L)).devRef (sig := sig) cc0_scratch1) rfl
  unfold SparseCore.Cfg.ownBufs
  refine (SparseCore.bigSep_erase' h0).trans ?_
  rw [SparseCore.bigSep_erase' (Finset.mem_erase.mpr ⟨hne, h1⟩)]

omit [FloatOps F] in
/-- The list scratch reads as the table once the table has been fetched into it. -/
theorem read_list (fa : Buf (Elt F) ((thr d L).loc cc0_scratch0)) :
    (aV).view.read (Elt F) (View.write (Elt F) (aV).view fa ((tV).view.read (Elt F) (table : Buf (Elt F) (tabLoc d))) Finset.univ) = table := by
  rw [View.write_whole_univ]; rfl

set_option maxHeartbeats 4000000 in
/-- Tile 0's task: from the three arrays to the three arrays, the output at the gathered values. -/
theorem first_body (hF : (K (F := F)).Facts) (h0 : (L 1).val = 0) (O : CellTallies nD τ sig (HIx 1)) (W : Waits sig (HIx 1)) (hO : ∀ g, O g none = 0) :
    iprop(levAts (K (F := F)).L (K (F := F)).lev ∗ trio m d (m (outLoc d))
        ∗ scopedBufs (thr d L) ∗ scopedSems0 (thr d L) ∗ owes (thr d L) O W)
      ⊢ wp frame (wpE (defs₀ (F := F)) 𝒱₀ (thr d L) none) Set.univ
          (cc0__gather_body L fV (Memref.isWhole_whole _) tV (Memref.isWhole_whole _) oV (Memref.isWhole_whole _)
            aV (Memref.isWhole_whole _) bV (Memref.isWhole_whole _) cc0_scratch2 cc0_scoped0 cc0_scoped1)
          fun _ => iprop(trio m d (gathered m d)
            ∗ scopedBufs (thr d L) ∗ scopedSems0 (thr d L)
            ∗ ∃ W', ⌜∀ p ∈ W', p ∈ W ∨ p.2 = none⌝ ∗ owes (thr d L) O W') := by
  have hc := (isFirst_iff ⟨(L 1).val, (L 1).isLt⟩).mpr h0
  simp only [cc0__gather_body_eq_skeleton]; unfold cc0__gather_body_skel
  simp only [hc, ↓reduceDIte]
  rw [(K (F := F)).scopedBufs_V hF d (coreOf L) (tileOf L), SparseCore.Cfg.scopedSems0_V (Val := Elt F) d (coreOf L) (tileOf L), ownSems0_tile, ownBufs_tile]
  iintro ⟨#Hlv, ⟨Hf, Ht, Ho⟩, ⟨⟨%fa, Ha⟩, ⟨%fb, Hb⟩, Hbufs⟩, ⟨HsG, HsF, HsW, Hsems⟩, HO⟩
  ihave Hmw := (show levAts (K (F := F)).L (K (F := F)).lev ⊢ Transfers.MayWaits (thr d L) (default : HIx 1) O from
    (K (F := F)).mayWaits_none (thr := thr d L) hO) $$ Hlv
  ihave Hf' := (Entails.of_eq (pts_fV (F := F) d L _).symm) $$ Hf
  ihave Ht' := (Entails.of_eq (pts_tV (F := F) d L _).symm) $$ Ht
  ihave Ho' := (Entails.of_eq (pts_oV (F := F) d L _).symm) $$ Ho
  ihave Ha' := (Entails.of_eq (pts_aV (F := F) d L _).symm) $$ Ha
  ihave Hb' := (Entails.of_eq (pts_bV (F := F) d L _).symm) $$ Hb
  sl_exec
  have hlist : View.write (Elt F) (aV).view fa (first_body.sl.dma0 (F := F)) Finset.univ = (table : Buf (Elt F) ((aV).view.loc (thr d L))) :=
    read_list d L fa
  rw [hlist]
  have hin : ∀ x, ((aV).view.read (Elt F) (table : Buf (Elt F) ((aV).view.loc (thr d L))) x).toNat < S689.size gathers_S689_S216.axis :=
    fun x => table_lt x
  sl_exec
  have hrows : first_body.sl.gather0 m d hin = gathered m d := by
    unfold first_body.sl.gather0 gathered pick
    rw [read_fAll d L]
    rfl
  have hout : View.write (Elt F) (oV).view (m (outLoc d)) (first_body.sl.dma0_1 m d L fb hin) Finset.univ = gathered m d := by
    refine (View.write_whole_univ _ _ _).trans ?_
    unfold first_body.sl.dma0_1
    exact (View.read_writes_whole _ _ _).trans hrows
  rw [hout]
  sl_step
  isplitl [Hf' Ht' Ho']
  · isplitl [Hf']; · iexact Hf'
    isplitl [Ht']; · iexact Ht'
    iexact Ho'
  isplitl [Ha' Hb' Hbufs]
  · isplitl [Ha']; · iexists _; iexact Ha'
    isplitl [Hb']; · iexists _; iexact Hb'
    iexact Hbufs
  isplitl [HsG HsF HsW Hsems]
  · isplitl [HsG]; · iexact HsG
    isplitl [HsF]; · iexact HsF
    isplitl [HsW]; · iexact HsW
    iexact Hsems
  iexists _; isplitr
  swap; · iexact HO
  ipureintro
  simp only [Finset.mem_insert]
  rintro p (rfl | rfl | rfl | hp)
  · exact .inr rfl
  · exact .inr rfl
  · exact .inr rfl
  · exact .inl hp

/-- Another tile's task returns at once, with what it was given. -/
theorem other_body (h0 : (L 1).val ≠ 0) (O : CellTallies nD τ sig (HIx 1)) (W : Waits sig (HIx 1)) :
    iprop((levAts (K (F := F)).L (K (F := F)).lev : sProp 𝕄) ∗ emp
        ∗ scopedBufs (thr d L) ∗ scopedSems0 (thr d L) ∗ owes (thr d L) O W)
      ⊢ wp frame (wpE (defs₀ (F := F)) 𝒱₀ (thr d L) none) Set.univ
          (cc0__gather_body L fV (Memref.isWhole_whole _) tV (Memref.isWhole_whole _) oV (Memref.isWhole_whole _)
            aV (Memref.isWhole_whole _) bV (Memref.isWhole_whole _) cc0_scratch2 cc0_scoped0 cc0_scoped1)
          fun _ => iprop(emp
            ∗ scopedBufs (thr d L) ∗ scopedSems0 (thr d L)
            ∗ ∃ W', ⌜∀ p ∈ W', p ∈ W ∨ p.2 = none⌝ ∗ owes (thr d L) O W') := by
  have hc := (isFirst_iff ⟨(L 1).val, (L 1).isLt⟩).not.mpr h0
  simp only [cc0__gather_body_eq_skeleton]; unfold cc0__gather_body_skel
  simp only [hc, ↓reduceDIte, wp_pure, pure_bind]
  iintro ⟨-, -, Hbufs, Hsems, HO⟩
  imodintro
  isplitr; · iempintro
  isplitl [Hbufs]; · iexact Hbufs
  isplitl [Hsems]; · iexact Hsems
  iexists W; isplitr
  · ipureintro; exact fun p hp => .inl hp
  · iexact HO

/-- The task of any tile: tile 0 has the three arrays, the others have nothing. -/
theorem tile_body (hF : (K (F := F)).Facts) (O : CellTallies nD τ sig (HIx 1)) (W : Waits sig (HIx 1)) (hO : ∀ g, O g none = 0) :
    iprop(levAts (K (F := F)).L (K (F := F)).lev ∗ emp ∗ firstOnly (L 1).val (trio m d (m (outLoc d)))
        ∗ scopedBufs (thr d L) ∗ scopedSems0 (thr d L) ∗ owes (thr d L) O W)
      ⊢ wp frame (wpE (defs₀ (F := F)) 𝒱₀ (thr d L) none) Set.univ
          (cc0__gather_body L fV (Memref.isWhole_whole _) tV (Memref.isWhole_whole _) oV (Memref.isWhole_whole _)
            aV (Memref.isWhole_whole _) bV (Memref.isWhole_whole _) cc0_scratch2 cc0_scoped0 cc0_scoped1)
          fun _ => iprop(firstOnly (L 1).val (trio m d (gathered m d))
            ∗ scopedBufs (thr d L) ∗ scopedSems0 (thr d L)
            ∗ ∃ W', ⌜∀ p ∈ W', p ∈ W ∨ p.2 = none ∨ p.2 = some (0 : Fin 1)⌝ ∗ owes (thr d L) O W') := by
  have weaken : ∀ X : sProp 𝕄,
      iprop(X ∗ scopedBufs (thr d L) ∗ scopedSems0 (thr d L) ∗ ∃ W', ⌜∀ p ∈ W', p ∈ W ∨ p.2 = none⌝ ∗ owes (thr d L) O W')
        ⊢ iprop(X ∗ scopedBufs (thr d L) ∗ scopedSems0 (thr d L)
          ∗ ∃ W', ⌜∀ p ∈ W', p ∈ W ∨ p.2 = none ∨ p.2 = some (0 : Fin 1)⌝ ∗ owes (thr d L) O W') := fun X => by
    iintro ⟨HX, Hbufs, Hsems, %W', %hW', HO⟩
    isplitl [HX]; · iexact HX
    isplitl [Hbufs]; · iexact Hbufs
    isplitl [Hsems]; · iexact Hsems
    iexists W'; isplitr
    · ipureintro; exact fun p hp => (hW' p hp).imp_right .inl
    · iexact HO
  by_cases h0 : (L 1).val = 0
  · rw [firstOnly_zero h0, firstOnly_zero h0]
    refine BIBase.Entails.trans ?_ ((first_body m d L hF h0 O W hO).trans (wp_mono frame _ _ fun _ => weaken _))
    iintro ⟨Hlv, -, H⟩
    isplitl [Hlv]; · iexact Hlv
    iexact H
  · rw [firstOnly_ne h0, firstOnly_ne h0]
    refine BIBase.Entails.trans ?_ ((other_body d L h0 O W).trans (wp_mono frame _ _ fun _ => weaken _))
    iintro ⟨Hlv, -, H⟩
    isplitl [Hlv]; · iexact Hlv
    iexact H

/-- A tile's coordinates in the call's grid. -/
def coords (c : Fin (grid0.bound 0)) (s : Fin (grid0.bound 1)) : grid0.Coords :=
  fun | 0 => c | 1 => s | ⟨_ + 2, h⟩ => absurd h (Nat.not_lt.2 (Nat.le_add_left _ _))

/-- The body the launch runs on a tile is the kernel's at that tile's grid point. -/
theorem defs₀_tile (c : Fin τ.nSC) (s : Fin τ.nSub) :
    defs₀ (F := F) (.scVector c s) 0 ()
      = SparseCore.onTile hcore0 hsub0 (fun c s => cc0__gather_body (coords c s)
          fV (Memref.isWhole_whole _) tV (Memref.isWhole_whole _) oV (Memref.isWhole_whole _)
          aV (Memref.isWhole_whole _) bV (Memref.isWhole_whole _) cc0_scratch2 cc0_scoped0 cc0_scoped1) ⟨⟩ c s := rfl

set_option maxRecDepth 16384 in
/-- Every tile's task, as the launch theorem asks for it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body m d (coords ⟨_, hci.1⟩ ⟨_, hci.2⟩) hF O W hO

end Tile

/-! ## The call's arrays go to tile 0 and come back from it -/

omit [FloatOps F] in
/-- Over all tiles, what tile 0 alone has is what it has. -/
theorem bigSep_firstOnly (X : sProp 𝕄) : (bigSep Finset.univ fun i : Fin ((K (F := F)).nSub 0) => firstOnly i.val X) = X := by
  have h16 : 0 < (K (F := F)).nSub 0 := show 0 < 16 by decide
  rw [SparseCore.bigSep_erase' (Finset.mem_univ (⟨0, h16⟩ : Fin ((K (F := F)).nSub 0))), firstOnly_zero rfl,
    bigSep_congr (Ψ := fun _ => (iprop(emp) : sProp 𝕄)) fun i hi => firstOnly_ne (fun h => (Finset.mem_erase.mp hi).1 (Fin.ext h)) X,
    show (bigSep _ fun _ => (iprop(emp) : sProp 𝕄)) = iprop(emp) from bigSep_emp_const _]
  exact equiv_iff.mp BI.sep_emp

/-- The SparseCore hands all three arrays to tile 0 and has them back from it. -/
theorem vecSplit : (K (F := F)).VecSplit' (P m) 0 := by
  intro d c
  show trio m d (m (outLoc d)) ⊢ |={Set.univ}=> iprop(
      (bigSep Finset.univ fun i : Fin ((K (F := F)).nSub 0) => firstOnly i.val (trio m d (m (outLoc d))))
      ∗ ((bigSep Finset.univ fun i : Fin ((K (F := F)).nSub 0) => firstOnly i.val (trio m d (gathered m d))) -∗ trio m d (gathered m d)))
  rw [bigSep_firstOnly, bigSep_firstOnly]
  iintro H; imodintro
  isplitl [H]; · iexact H
  iintro H; iexact H

end Cert.Proof.IdealRun

end
-- ==== Proof.IdealRun.lean ====
/-
  The run of the SparseCore gather program, with the values it leaves.
-/
module

public import proofs.«01_k».proof.Defs
public import proofs.«01_k».proof.Proof.Gen.KernelIdeal
public import proofs.«01_k».proof.Proof.Gen.KernelIdeal.Skeleton
public import proofs.«01_k».proof.Proof.IdealTask
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.IdealRun

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.ShloMosaic.StableHlo (held held_sub_split held_congr tcRefs after seq launchContents devRef_mem_tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main's host operations -/

/-- What @main computes before the call: the table, the arguments flattened, and the joined array. -/
def opsPre : List (HloOp τ sig (Elt F)) := [
    StableHlo.nullary main_c (fun i => lit0 (S216.rowMajor i)),
    StableHlo.reshape main_arg1 main_v0 (rfl : (.f32 : EltTy) = .f32) shapeCasts_S4x7_S28,
    StableHlo.reshape main_arg2 main_v1 (rfl : (.f32 : EltTy) = .f32) shapeCasts_S2x3x4_S24,
    StableHlo.reshape main_arg3 main_v2 (rfl : (.f32 : EltTy) = .f32) shapeCasts_S5x5x5x5_S625,
    StableHlo.nary ![main_arg0, main_v0, main_v1, main_v2] main_v3 (fun u => (concatenate S689 0 [⟨S12, (u 0 : (⟨S12, .f32⟩ : BufTy).Contents (Elt F))⟩, ⟨S28, (u 1 : (⟨S28, .f32⟩ : BufTy).Contents (Elt F))⟩, ⟨S24, (u 2 : (⟨S24, .f32⟩ : BufTy).Contents (Elt F))⟩, ⟨S625, (u 3 : (⟨S625, .f32⟩ : BufTy).Contents (Elt F))⟩] concatenates_S12_S28_S24_S625_S689_d0 : (⟨S689, .f32⟩ : BufTy).Contents (Elt F)))]

/-- What @main computes after the call: the ten results, each a slice of the call's output in its own shape. -/
def opsPost : List (HloOp τ sig (Elt F)) := [
    StableHlo.unary main_v4 main_v5 ((extractStridedSlice S3 ![0] · slices_S216_S3_0) : (⟨S216, .f32⟩ : BufTy).Contents (Elt F) → (⟨S3, .f32⟩ : BufTy).Contents (Elt F)),
    StableHlo.unary main_v4 main_v6 ((extractStridedSlice S6 ![8] · slices_S216_S6_8) : (⟨S216, .f32⟩ : BufTy).Contents (Elt F) → (⟨S6, .f32⟩ : BufTy).Contents (Elt F)),
    StableHlo.reshape main_v6 main_v7 (rfl : (.f32 : EltTy) = .f32) shapeCasts_S6_S2x3,
    StableHlo.unary main_v4 main_v8 ((extractStridedSlice S12 ![16] · slices_S216_S12_16) : (⟨S216, .f32⟩ : BufTy).Contents (Elt F) → (⟨S12, .f32⟩ : BufTy).Contents (Elt F)),
    StableHlo.reshape main_v8 main_v9 (rfl : (.f32 : EltTy) = .f32) shapeCasts_S12_S2x6,
    StableHlo.unary main_v4 main_v10 ((extractStridedSlice S6 ![32] · slices_S216_S6_32) : (⟨S216, .f32⟩ : BufTy).Contents (Elt F) → (⟨S6, .f32⟩ : BufTy).Contents (Elt F)),
    StableHlo.reshape main_v10 main_v11 (rfl : (.f32 : EltTy) = .f32) shapeCasts_S6_S2x3x1,
    StableHlo.unary main_v4 main_v12 ((extractStridedSlice S6 ![40] · slices_S216_S6_40) : (⟨S216, .f32⟩ : BufTy).Contents (Elt F) → (⟨S6, .f32⟩ : BufTy).Contents (Elt F)),
    StableHlo.reshape main_v12 main_v13 (rfl : (.f32 : EltTy) = .f32) shapeCasts_S6_S2x3x1,
    StableHlo.unary main_v4 main_v14 ((extractStridedSlice S8 ![48] · slices_S216_S8_48) : (⟨S216, .f32⟩ : BufTy).Contents (Elt F) → (⟨S8, .f32⟩ : BufTy).Contents (Elt F)),
    StableHlo.reshape main_v14 main_v15 (rfl : (.f32 : EltTy) = .f32) shapeCasts_S8_S2x1x4,
    StableHlo.unary main_v4 main_v16 ((extractStridedSlice S40 ![56] · slices_S216_S40_56) : (⟨S216, .f32⟩ : BufTy).Contents (Elt F) → (⟨S40, .f32⟩ : BufTy).Contents (Elt F)),
    StableHlo.reshape main_v16 main_v17 (rfl : (.f32 : EltTy) = .f32) shapeCasts_S40_S2x1x4x5,
    StableHlo.unary main_v4 main_v18 ((extractStridedSlice S40 ![96] · slices_S216_S40_96) : (⟨S216, .f32⟩ : BufTy).Contents (Elt F) → (⟨S40, .f32⟩ : BufTy).Contents (Elt F)),
    StableHlo.reshape main_v18 main_v19 (rfl : (.f32 : EltTy) = .f32) shapeCasts_S40_S2x1x4x5,
    StableHlo.unary main_v4 main_v20 ((extractStridedSlice S40 ![136] · slices_S216_S40_136) : (⟨S216, .f32⟩ : BufTy).Contents (Elt F) → (⟨S40, .f32⟩ : BufTy).Contents (Elt F)),
    StableHlo.reshape main_v20 main_v21 (rfl : (.f32 : EltTy) = .f32) shapeCasts_S40_S2x1x4x5,
    StableHlo.unary main_v4 main_v22 ((extractStridedSlice S40 ![176] · slices_S216_S40_176) : (⟨S216, .f32⟩ : BufTy).Contents (Elt F) → (⟨S40, .f32⟩ : BufTy).Contents (Elt F)),
    StableHlo.reshape main_v22 main_v23 (rfl : (.f32 : EltTy) = .f32) shapeCasts_S40_S2x1x4x5]

/-- @main is the first line, the call and the second line. -/
theorem main_eq (d : Dev nD) :
    main (F := F) d = (seq opsPre >>= fun _ => (K (F := F)).run d 0 >>= fun _ => seq opsPost) := by
  simp only [main, opsPre, opsPost, seq, bind_assoc, pure_bind]

/-- Every operation before the call works on TensorCore arrays only. -/
theorem opsPre_sub : ∀ op ∈ opsPre (F := F), op.bufs ⊆ tcRefs τ sig := by simp [opsPre]
/-- Every operation after the call works on TensorCore arrays only. -/
theorem opsPost_sub : ∀ op ∈ opsPost (F := F), op.bufs ⊆ tcRefs τ sig := by simp [opsPost]
/-- No operation before the call needs memory of its own. -/
theorem opsPre_fresh : ∀ op ∈ opsPre (F := F), op.fresh = ∅ := by
  intro op h; simp only [opsPre, List.mem_cons, List.not_mem_nil, or_false] at h
  rcases h with rfl | rfl | rfl | rfl | rfl <;> rfl
/-- No operation after the call needs memory of its own. -/
theorem opsPost_fresh : ∀ op ∈ opsPost (F := F), op.fresh = ∅ := by
  intro op h; simp only [opsPost, List.mem_cons, List.not_mem_nil, or_false] at h
  rcases h with rfl | rfl | rfl | rfl | rfl | rfl | rfl | rfl | rfl | rfl | rfl | rfl | rfl | rfl | rfl | rfl | rfl | rfl | rfl <;> rfl

/-! ## The arrays at each point of @main -/

/-- The arrays when the call starts. -/
def before (d : Dev nD) : Valuation τ sig (Elt F) := after opsPre (launchContents m d)

/-- The arrays when the call has returned: only its output array has changed. -/
def returned (d : Dev nD) : Valuation τ sig (Elt F) :=
  Function.update (before m d) (Proc.devRef .tc main_v4) (gathered m d)

/-- The arrays when @main ends. -/
def final (d : Dev nD) : Valuation τ sig (Elt F) := after opsPost (returned m d)

/-- When the call starts, the joined array holds the arguments in a row. -/
theorem before_flat (d : Dev nD) : before m d (Proc.devRef .tc main_v3) = flat m d := by
  unfold before opsPre
  after_results
  rfl
/-- When the call starts, the table array holds the constant table. -/
theorem before_table (d : Dev nD) : before m d (Proc.devRef .tc main_c) = table := by
  unfold before opsPre
  after_results
  rfl
/-- When the call starts, the output array is as at launch. -/
theorem before_out (d : Dev nD) : before m d (Proc.devRef .tc main_v4) = m (outLoc d) := by
  unfold before opsPre
  after_results

/-- The three arrays the call works on. -/
def callRefs : Finset (DevRef τ sig) :=
  {Proc.devRef .tc main_v3, Proc.devRef .tc main_c, Proc.devRef .tc main_v4}

/-- The three are TensorCore arrays. -/
theorem callRefs_sub : callRefs ⊆ tcRefs τ sig := by
  intro b hb
  simp only [callRefs, Finset.mem_insert, Finset.mem_singleton] at hb
  rcases hb with rfl | rfl | rfl <;> exact devRef_mem_tcRefs _

/-- The call's three arrays, held at a valuation, one by one. -/
theorem held_callRefs (d : Dev nD) (V : Valuation τ sig (Elt F)) :
    (held (d.tc) callRefs V : sProp 𝕄)
      = iprop((flatLoc d ↦{fullShare} V (Proc.devRef .tc main_v3)) ∗ (tabLoc d ↦{fullShare} V (Proc.devRef .tc main_c))
          ∗ (outLoc d ↦{fullShare} V (Proc.devRef .tc main_v4))) := by
  unfold held callRefs
  rw [bigSep_insert (by decide), bigSep_insert (by decide), bigSep_singleton]
  rfl

/-- All arrays at the call's start are the call's three and the rest. -/
theorem held_before (d : Dev nD) :
    (held (d.tc) (tcRefs τ sig) (before m d) : sProp 𝕄)
      = iprop(trio m d (m (outLoc d)) ∗ held (d.tc) (tcRefs τ sig \ callRefs) (before m d)) := by
  rw [held_sub_split _ callRefs_sub, held_callRefs, before_flat, before_table, before_out]

/-- The call changes none of the other arrays. -/
theorem held_others (d : Dev nD) :
    (held (d.tc) (tcRefs τ sig \ callRefs) (returned m d) : sProp 𝕄) = held (d.tc) (tcRefs τ sig \ callRefs) (before m d) := by
  refine held_congr _ fun b hb => Function.update_of_ne ?_ _ _
  intro e
  refine (Finset.mem_sdiff.mp hb).2 ?_
  rw [e]
  exact Finset.mem_insert_of_mem (Finset.mem_insert_of_mem (Finset.mem_singleton_self _))

/-- When the call has returned, its output array holds the gathered values. -/
theorem returned_out (d : Dev nD) : returned m d (Proc.devRef .tc main_v4) = gathered m d :=
  Function.update_self _ _ _

/-- The call leaves every TensorCore array but its output as it was. -/
theorem returned_ne (d : Dev nD) {b : Ref sig .tc} (h : b ≠ main_v4) :
    returned m d (Proc.devRef .tc b) = before m d (Proc.devRef .tc b) :=
  Function.update_of_ne (StableHlo.devRef_ne_of_ne h) _ _

/-- All arrays when the call has returned are the call's three, the output at the gathered values, and the rest. -/
theorem held_returned (d : Dev nD) :
    (held (d.tc) (tcRefs τ sig) (returned m d) : sProp 𝕄)
      = iprop(trio m d (gathered m d) ∗ held (d.tc) (tcRefs τ sig \ callRefs) (before m d)) := by
  rw [held_sub_split _ callRefs_sub, held_callRefs, held_others, returned_out, returned_ne m d (show main_v3 ≠ main_v4 by decide),
    returned_ne m d (show main_c ≠ main_v4 by decide), before_flat, before_table]

/-- What the launch gives the TensorCore's arrays as is all of them held at the launch contents. -/
theorem unscopedBufs_held (d : Dev nD) :
    (unscopedBufs d (fun b => m ((SparseCore.T d).loc b)) : sProp 𝕄) = held (d.tc) (tcRefs τ sig) (launchContents m d) := by
  have hall : (Finset.univ.filter fun b : Ref sig .tc => ¬ b.isScoped) = Finset.univ :=
    Finset.filter_true_of_mem fun b _ => by revert b; decide
  unfold unscopedBufs held tcRefs
  rw [hall, bigSep_map]
  rfl

/-! ## The launch -/

/-- The launch's ghost element: the four handshakes' tokens. -/
def u₀ : UU := (initOf (K (F := F)).hsCells (K (F := F)).hsToks, 1)

omit [FloatOps F] in
/-- Any number of empty assertions together are empty. -/
theorem emps {I : Type} (s : Finset I) : (bigSep s fun _ => (iprop(emp) : sProp 𝕄)) = iprop(emp) := bigSep_emp_const s

/-- The launch's ghost element gives the handshakes' tokens; nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => emps _).trans (emps _)
  rw [hx, emps]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-- The one SparseCore of the grid gets the three arrays … -/
theorem st_eq (d : Dev nD) : (bigSep Finset.univ fun c : Fin ((K (F := F)).nCore 0) => (P m).st 0 d c) = trio m d (m (outLoc d)) :=
  bigSep_univ_of_subsingleton (0 : Fin 1)
/-- … and returns them. -/
theorem dn_eq (d : Dev nD) : (bigSep Finset.univ fun c : Fin ((K (F := F)).nCore 0) => (P m).dn 0 d c) = trio m d (gathered m d) :=
  bigSep_univ_of_subsingleton (0 : Fin 1)

/-- What the TensorCore holds at the end: all its arrays at their final contents. -/
abbrev FIN (d : Dev nD) : sProp 𝕄 := held (d.tc) (tcRefs τ sig) (final m d)

set_option backward.isDefEq.respectTransparency.types false in
/-- @main on a device's TensorCore: the first line, the call, the second line. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_held, main_eq]
  iintro ⟨#Hctx, Hst, ⟨Hb, Hh, Hts, -⟩, -⟩
  iapply (StableHlo.wp_seq 𝒱 none Set.univ d (tcRefs τ sig) _ opsPre opsPre_sub opsPre_fresh (launchContents m d)) $$ [Hb Hh]
  · isplitl [Hb] <;> iassumption
  iintro ⟨Hb, Hh⟩
  ihave Hh' := (Entails.of_eq (show held (d.tc) (tcRefs τ sig) (after opsPre (launchContents m d)) = _ from held_before m d)) $$ Hh
  icases Hh' with ⟨H3, Hrest⟩
  rw [wp_bind]
  iapply ((K (F := F)).wp_run (D (F := F)) 𝒱 (EH := EH) (P := P m) κ d 0) $$ [Hst H3 Hrest Hb Hts]
  isplitr; · iexact Hctx
  isplitl [Hst]; · iexact Hst
  isplitl [H3]
  · rw [st_eq]; iexact H3
  iintro ⟨Hst, Hdn⟩
  ihave H3 := (Entails.of_eq (dn_eq m d)) $$ Hdn
  ihave Hh := (Entails.of_eq (held_returned m d).symm) $$ [H3 Hrest]
  · isplitl [H3] <;> iassumption
  rw [← bind_pure (seq opsPost)]
  iapply (StableHlo.wp_seq 𝒱 none Set.univ d (tcRefs τ sig) _ opsPost opsPost_sub opsPost_fresh (returned m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-- Every array of the device's memory is at its final contents. -/
def fq (d : Dev nD) (s' : Phys nD τ sig (Elt F)) : Prop :=
  ∀ b : Ref sig .tc, s'.mem.mem (tcLoc d b) = final m d (Proc.devRef .tc b)

/-- What the TensorCore holds at the end tells what memory holds. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (c := d) (qs := fun _ => fullShare) (F := final m d) (tcRefs τ sig)) $$ [HSI H]
  · isplitl [HSI]; · iexact HSI
    iexact H
  ipureintro
  exact fun b => h _ (devRef_mem_tcRefs b)

/-! ## The program's run -/

/-- A run's end: every TensorCore array at its final contents, every counter back at zero. -/
def Ends : PUnit × MemSt nD τ sig (Elt F) → Prop :=
  fun r => (∀ (c : Dev nD) (b : Ref sig .tc), r.2.mem (tcLoc c b) = final m c (Proc.devRef .tc b)) ∧ r.2.sem = fun _ => 0

/-- From every launch memory the program runs to that end. -/
theorem run_ends [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

/-! ## What the arrays hold at the end -/

/-- @main leaves argument 0 as it was. -/
theorem final_arg0 (d : Dev nD) : final m d (Proc.devRef .tc main_arg0) = m (tcLoc d main_arg0) := by
  unfold final opsPost
  after_results
  rw [returned_ne m d (show main_arg0 ≠ main_v4 by decide)]
  unfold before opsPre
  after_results

/-- @main leaves argument 1 as it was. -/
theorem final_arg1 (d : Dev nD) : final m d (Proc.devRef .tc main_arg1) = m (tcLoc d main_arg1) := by
  unfold final opsPost
  after_results
  rw [returned_ne m d (show main_arg1 ≠ main_v4 by decide)]
  unfold before opsPre
  after_results

/-- @main leaves argument 2 as it was. -/
theorem final_arg2 (d : Dev nD) : final m d (Proc.devRef .tc main_arg2) = m (tcLoc d main_arg2) := by
  unfold final opsPost
  after_results
  rw [returned_ne m d (show main_arg2 ≠ main_v4 by decide)]
  unfold before opsPre
  after_results

/-- @main leaves argument 3 as it was. -/
theorem final_arg3 (d : Dev nD) : final m d (Proc.devRef .tc main_arg3) = m (tcLoc d main_arg3) := by
  unfold final opsPost
  after_results
  rw [returned_ne m d (show main_arg3 ≠ main_v4 by decide)]
  unfold before opsPre
  after_results

/-- Result 1 is the 3 gathered values from position 0 on. -/
theorem final_v5 (d : Dev nD) : final m d (Proc.devRef .tc main_v5)
    = extractStridedSlice S3 ![0] (gathered m d) slices_S216_S3_0 := by
  unfold final opsPost
  after_results
  rw [returned_out]

/-- Result 2 is the 6 gathered values from position 8 on. -/
theorem final_v7 (d : Dev nD) : final m d (Proc.devRef .tc main_v7)
    = shapeCast S2x3 (extractStridedSlice S6 ![8] (gathered m d) slices_S216_S6_8) shapeCasts_S6_S2x3 := by
  unfold final opsPost
  after_results
  rw [returned_out]
  rfl

/-- Result 3 is the 12 gathered values from position 16 on. -/
theorem final_v9 (d : Dev nD) : final m d (Proc.devRef .tc main_v9)
    = shapeCast S2x6 (extractStridedSlice S12 ![16] (gathered m d) slices_S216_S12_16) shapeCasts_S12_S2x6 := by
  unfold final opsPost
  after_results
  rw [returned_out]
  rfl

/-- Result 4 is the 6 gathered values from position 32 on. -/
theorem final_v11 (d : Dev nD) : final m d (Proc.devRef .tc main_v11)
    = shapeCast S2x3x1 (extractStridedSlice S6 ![32] (gathered m d) slices_S216_S6_32) shapeCasts_S6_S2x3x1 := by
  unfold final opsPost
  after_results
  rw [returned_out]
  rfl

/-- Result 5 is the 6 gathered values from position 40 on. -/
theorem final_v13 (d : Dev nD) : final m d (Proc.devRef .tc main_v13)
    = shapeCast S2x3x1 (extractStridedSlice S6 ![40] (gathered m d) slices_S216_S6_40) shapeCasts_S6_S2x3x1 := by
  unfold final opsPost
  after_results
  rw [returned_out]
  rfl

/-- Result 6 is the 8 gathered values from position 48 on. -/
theorem final_v15 (d : Dev nD) : final m d (Proc.devRef .tc main_v15)
    = shapeCast S2x1x4 (extractStridedSlice S8 ![48] (gathered m d) slices_S216_S8_48) shapeCasts_S8_S2x1x4 := by
  unfold final opsPost
  after_results
  rw [returned_out]
  rfl

/-- Result 7 is the 40 gathered values from position 56 on. -/
theorem final_v17 (d : Dev nD) : final m d (Proc.devRef .tc main_v17)
    = shapeCast S2x1x4x5 (extractStridedSlice S40 ![56] (gathered m d) slices_S216_S40_56) shapeCasts_S40_S2x1x4x5 := by
  unfold final opsPost
  after_results
  rw [returned_out]
  rfl

/-- Result 8 is the 40 gathered values from position 96 on. -/
theorem final_v19 (d : Dev nD) : final m d (Proc.devRef .tc main_v19)
    = shapeCast S2x1x4x5 (extractStridedSlice S40 ![96] (gathered m d) slices_S216_S40_96) shapeCasts_S40_S2x1x4x5 := by
  unfold final opsPost
  after_results
  rw [returned_out]
  rfl

/-- Result 9 is the 40 gathered values from position 136 on. -/
theorem final_v21 (d : Dev nD) : final m d (Proc.devRef .tc main_v21)
    = shapeCast S2x1x4x5 (extractStridedSlice S40 ![136] (gathered m d) slices_S216_S40_136) shapeCasts_S40_S2x1x4x5 := by
  unfold final opsPost
  after_results
  rw [returned_out]
  rfl

/-- Result 10 is the 40 gathered values from position 176 on. -/
theorem final_v23 (d : Dev nD) : final m d (Proc.devRef .tc main_v23)
    = shapeCast S2x1x4x5 (extractStridedSlice S40 ![176] (gathered m d) slices_S216_S40_176) shapeCasts_S40_S2x1x4x5 := by
  unfold final opsPost
  after_results
  rw [returned_out]
  rfl

end Cert.Proof.IdealRun

end
-- ==== Proof.Values.lean ====
/-
  The two programs' results agree, element by element.

  The reference reads an argument at an index which it computes from a constant table, where a guard computed from
  the same table is 1. The kernel reads the arguments laid out in a row (`flat`) at a position from its own table. Which
  argument, and where in it: both sides are computed from constants alone, so that they agree is decided by computation
  (`decide`), one finite statement per result.
-/
module

public import proofs.«01_k».proof.Proof.IdealRun
public import proofs.«01_k».proof.Proof.Gen.ReferenceIdeal
public import proofs.«01_k».proof.Proof.Gen.ReferenceIdeal.Run
public import Idealize.ShloMosaic.Lib.Pipeline.Value

@[expose] public section

noncomputable section

namespace Cert.Proof.Values

open Cert.KernelIdeal Cert.KernelIdeal.Gen
open Idealize.ShloMosaic Idealize.ShloMosaic.StableHlo Cert.Proof.IdealRun

variable {F : FTy → Type} (m : (ℓ : Loc nD τ sig) → Buf (Elt F) ℓ)

/-! ## The kernel's side: a gathered value is an argument's element -/

/-- In a shape of one axis an index's row-major position is its coordinate. -/
theorem rowMajor_line (n : ℕ) (x : (⟨1, ![n]⟩ : Shape).Idx) : ((⟨1, ![n]⟩ : Shape).rowMajor x).val = (x 0).val := by
  have h := Shape.rowMajorPi_succ_val (n := 0) ![n] x
  have h0 : (Shape.rowMajorPi (fun a : Fin 0 => (![n] : Fin 1 → ℕ) a.succ) (fun a => x a.succ)).val = 0 :=
    Nat.lt_one_iff.mp (lt_of_lt_of_eq (Fin.isLt _) (by simp))
  rw [h0] at h
  exact h.trans (by simp)

/-- The joined array at position 0 plus `i`'s row-major position holds argument 0 at `i`. -/
theorem flat_arg0 (d : Dev nD) (i : S12.Idx) (p : S689.Idx) (h : (p 0).val = 0 + (S12.rowMajor i).val) :
    flat m d p = m (tcLoc d main_arg0) i := by
  refine concatenate_apply_piece (t := S689) 0 _ _ p 0 (by show 0 < 4; decide) S12 _ rfl rfl 0 rfl i (fun b hb => ?_) ?_
  · exact absurd (Subsingleton.elim (α := Fin 1) _ _) hb
  · rw [rowMajor_line] at h; exact h.symm

/-- The joined array at position 12 plus `i`'s row-major position holds argument 1 at `i`. -/
theorem flat_arg1 (d : Dev nD) (i : S4x7.Idx) (p : S689.Idx) (h : (p 0).val = 12 + (S4x7.rowMajor i).val) :
    flat m d p = m (tcLoc d main_arg1) i := by
  have e : Shape.reshapeEquiv shapeCasts_S4x7_S28 ((Shape.reshapeEquiv shapeCasts_S4x7_S28).symm i) = i := Equiv.apply_symm_apply _ _
  have hp : (((Shape.reshapeEquiv shapeCasts_S4x7_S28).symm i) 0).val = (S4x7.rowMajor i).val := by
    rw [← rowMajor_line, ← Shape.rowMajor_reshapeEquiv shapeCasts_S4x7_S28, e]
  refine (concatenate_apply_piece (t := S689) 0 _ _ p 1 (by show 1 < 4; decide) S28 _ rfl rfl 12 rfl
    ((Shape.reshapeEquiv shapeCasts_S4x7_S28).symm i) (fun b hb => ?_) ?_).trans ?_
  · exact absurd (Subsingleton.elim (α := Fin 1) _ _) hb
  · rw [h]; exact congrArg _ hp
  · exact congrArg _ e

/-- The joined array at position 40 plus `i`'s row-major position holds argument 2 at `i`. -/
theorem flat_arg2 (d : Dev nD) (i : S2x3x4.Idx) (p : S689.Idx) (h : (p 0).val = 40 + (S2x3x4.rowMajor i).val) :
    flat m d p = m (tcLoc d main_arg2) i := by
  have e : Shape.reshapeEquiv shapeCasts_S2x3x4_S24 ((Shape.reshapeEquiv shapeCasts_S2x3x4_S24).symm i) = i := Equiv.apply_symm_apply _ _
  have hp : (((Shape.reshapeEquiv shapeCasts_S2x3x4_S24).symm i) 0).val = (S2x3x4.rowMajor i).val := by
    rw [← rowMajor_line, ← Shape.rowMajor_reshapeEquiv shapeCasts_S2x3x4_S24, e]
  refine (concatenate_apply_piece (t := S689) 0 _ _ p 2 (by show 2 < 4; decide) S24 _ rfl rfl 40 rfl
    ((Shape.reshapeEquiv shapeCasts_S2x3x4_S24).symm i) (fun b hb => ?_) ?_).trans ?_
  · exact absurd (Subsingleton.elim (α := Fin 1) _ _) hb
  · rw [h]; exact congrArg _ hp
  · exact congrArg _ e

/-- The joined array at position 64 plus `i`'s row-major position holds argument 3 at `i`. -/
theorem flat_arg3 (d : Dev nD) (i : S5x5x5x5.Idx) (p : S689.Idx) (h : (p 0).val = 64 + (S5x5x5x5.rowMajor i).val) :
    flat m d p = m (tcLoc d main_arg3) i := by
  have e : Shape.reshapeEquiv shapeCasts_S5x5x5x5_S625 ((Shape.reshapeEquiv shapeCasts_S5x5x5x5_S625).symm i) = i := Equiv.apply_symm_apply _ _
  have hp : (((Shape.reshapeEquiv shapeCasts_S5x5x5x5_S625).symm i) 0).val = (S5x5x5x5.rowMajor i).val := by
    rw [← rowMajor_line, ← Shape.rowMajor_reshapeEquiv shapeCasts_S5x5x5x5_S625, e]
  refine (concatenate_apply_piece (t := S689) 0 _ _ p 3 (by show 3 < 4; decide) S625 _ rfl rfl 64 rfl
    ((Shape.reshapeEquiv shapeCasts_S5x5x5x5_S625).symm i) (fun b hb => ?_) ?_).trans ?_
  · exact absurd (Subsingleton.elim (α := Fin 1) _ _) hb
  · rw [h]; exact congrArg _ hp
  · exact congrArg _ e

/-- The `k`-th gathered value is the joined array at the position in the table's row `k`. -/
theorem gathered_flat (d : Dev nD) (k : S216.Idx) (p : S689.Idx) (h : (p 0).val = (lit0 (k 0)).toNat) : gathered m d k = flat m d p := by
  refine congrArg (flat m d) (funext fun b => ?_)
  obtain rfl : b = 0 := Subsingleton.elim (α := Fin 1) _ _
  refine Fin.ext (Eq.trans ?_ h.symm)
  have hk : S216.rowMajor (S216.rowMajor.symm ((k 0).cast rfl)) = k 0 := Equiv.apply_symm_apply _ _
  exact congrArg (fun q : Fin 216 => (lit0 q).toNat) hk

/-- A row of the table, as an index of the joined array. -/
def position (k : S216.Idx) : S689.Idx := fun b =>
  ⟨(lit0 (k 0)).toNat, by obtain rfl : b = 0 := Subsingleton.elim (α := Fin 1) _ _; exact lit0_lt (k 0)⟩

/-- Where the table's row points at argument 0's element `i`, the gathered value is that element. -/
theorem gathered_arg0 (d : Dev nD) (k : S216.Idx) (i : S12.Idx) (h : (lit0 (k 0)).toNat = 0 + (S12.rowMajor i).val) :
    gathered m d k = m (tcLoc d main_arg0) i :=
  (gathered_flat m d k (position k) rfl).trans (flat_arg0 m d i _ h)

/-- Where the table's row points at argument 1's element `i`, the gathered value is that element. -/
theorem gathered_arg1 (d : Dev nD) (k : S216.Idx) (i : S4x7.Idx) (h : (lit0 (k 0)).toNat = 12 + (S4x7.rowMajor i).val) :
    gathered m d k = m (tcLoc d main_arg1) i :=
  (gathered_flat m d k (position k) rfl).trans (flat_arg1 m d i _ h)

/-- Where the table's row points at argument 2's element `i`, the gathered value is that element. -/
theorem gathered_arg2 (d : Dev nD) (k : S216.Idx) (i : S2x3x4.Idx) (h : (lit0 (k 0)).toNat = 40 + (S2x3x4.rowMajor i).val) :
    gathered m d k = m (tcLoc d main_arg2) i :=
  (gathered_flat m d k (position k) rfl).trans (flat_arg2 m d i _ h)

/-- Where the table's row points at argument 3's element `i`, the gathered value is that element. -/
theorem gathered_arg3 (d : Dev nD) (k : S216.Idx) (i : S5x5x5x5.Idx) (h : (lit0 (k 0)).toNat = 64 + (S5x5x5x5.rowMajor i).val) :
    gathered m d k = m (tcLoc d main_arg3) i :=
  (gathered_flat m d k (position k) rfl).trans (flat_arg3 m d i _ h)

/-! ## The reference's side -/

/-- Some contents of the reference's arrays. Its index tables are constants, the same whatever the contents. -/
def blank : Valuation Cert.ReferenceIdeal.τ Cert.ReferenceIdeal.sig (Elt Ideal) := fun _ _ => Classical.choice inferInstance

/-- A guarded gather is an array `y` when every guard is 1 and every element read is `y`'s. -/
theorem guarded_gather {α : Type} {o si r : Shape} {g : r.Idx → BitVec 1} {dn : GatherDims o si r} {x : o.Idx → α}
    {idx : si.Idx → BitVec 32} {z y : r.Idx → α} (hg : ∀ j, g j = 1#1) (h : ∀ j, x (dn.operandIdx j idx) = y j) :
    select g (Host.gather dn x idx) z = y :=
  funext fun j => (if_pos (hg j)).trans (h j)

section Results

variable (m : (ℓ : Loc nD τ sig) → Buf (Elt Ideal) ℓ) (d : Dev nD)
  (V : Valuation Cert.ReferenceIdeal.τ Cert.ReferenceIdeal.sig (Elt Ideal))

/-- Result 1, a gather from argument 0: both programs compute the same array. -/
theorem result1 (hV : V (Proc.devRef .tc Cert.ReferenceIdeal.main_arg0) = m (tcLoc d main_arg0)) :
    after Cert.ReferenceIdeal.Value.ops V (Proc.devRef .tc Cert.ReferenceIdeal.main_v0) = final m d (Proc.devRef .tc main_v5) := by
  refine ((congrFun (Cert.ReferenceIdeal.Value.after_ops V) _).trans (Cert.ReferenceIdeal.Value.val1_main_v0 V)).trans
    (Eq.trans ?_ (final_v5 m d).symm)
  rw [hV, show Cert.ReferenceIdeal.Value.res_main_call0_v5 V = Cert.ReferenceIdeal.Value.res_main_call0_v5 blank from rfl]
  refine guarded_gather (by decide +kernel) fun j => (gathered_arg0 m d _ _ ?_).symm
  revert j
  decide +kernel

/-- Result 2, a gather from argument 1: both programs compute the same array. -/
theorem result2 (hV : V (Proc.devRef .tc Cert.ReferenceIdeal.main_arg1) = m (tcLoc d main_arg1)) :
    after Cert.ReferenceIdeal.Value.ops V (Proc.devRef .tc Cert.ReferenceIdeal.main_v2) = final m d (Proc.devRef .tc main_v7) := by
  refine ((congrFun (Cert.ReferenceIdeal.Value.after_ops V) _).trans (Cert.ReferenceIdeal.Value.val1_main_v2 V)).trans
    (Eq.trans ?_ (final_v7 m d).symm)
  rw [hV, show Cert.ReferenceIdeal.Value.res_main_call1_v5 V = Cert.ReferenceIdeal.Value.res_main_call1_v5 blank from rfl]
  refine guarded_gather (by decide +kernel) fun j => (gathered_arg1 m d _ _ ?_).symm
  revert j
  decide +kernel

/-- Result 3, a gather from argument 1: both programs compute the same array. -/
theorem result3 (hV : V (Proc.devRef .tc Cert.ReferenceIdeal.main_arg1) = m (tcLoc d main_arg1)) :
    after Cert.ReferenceIdeal.Value.ops V (Proc.devRef .tc Cert.ReferenceIdeal.main_v4) = final m d (Proc.devRef .tc main_v9) := by
  refine ((congrFun (Cert.ReferenceIdeal.Value.after_ops V) _).trans (Cert.ReferenceIdeal.Value.val1_main_v4 V)).trans
    (Eq.trans ?_ (final_v9 m d).symm)
  rw [hV, show Cert.ReferenceIdeal.Value.res_main_call2_v5 V = Cert.ReferenceIdeal.Value.res_main_call2_v5 blank from rfl]
  refine guarded_gather (by decide +kernel) fun j => (gathered_arg1 m d _ _ ?_).symm
  revert j
  decide +kernel

/-- Result 4, a gather from argument 2: both programs compute the same array. -/
theorem result4 (hV : V (Proc.devRef .tc Cert.ReferenceIdeal.main_arg2) = m (tcLoc d main_arg2)) :
    after Cert.ReferenceIdeal.Value.ops V (Proc.devRef .tc Cert.ReferenceIdeal.main_v6) = final m d (Proc.devRef .tc main_v11) := by
  refine ((congrFun (Cert.ReferenceIdeal.Value.after_ops V) _).trans (Cert.ReferenceIdeal.Value.val1_main_v6 V)).trans
    (Eq.trans ?_ (final_v11 m d).symm)
  rw [hV, show Cert.ReferenceIdeal.Value.res_main_call3_v4 V = Cert.ReferenceIdeal.Value.res_main_call3_v4 blank from rfl]
  refine guarded_gather (by decide +kernel) fun j => (gathered_arg2 m d _ _ ?_).symm
  revert j
  decide +kernel

/-- Result 5, a gather from argument 2: both programs compute the same array. -/
theorem result5 (hV : V (Proc.devRef .tc Cert.ReferenceIdeal.main_arg2) = m (tcLoc d main_arg2)) :
    after Cert.ReferenceIdeal.Value.ops V (Proc.devRef .tc Cert.ReferenceIdeal.main_v8) = final m d (Proc.devRef .tc main_v13) := by
  refine ((congrFun (Cert.ReferenceIdeal.Value.after_ops V) _).trans (Cert.ReferenceIdeal.Value.val1_main_v8 V)).trans
    (Eq.trans ?_ (final_v13 m d).symm)
  rw [hV, show Cert.ReferenceIdeal.Value.res_main_call4_v4 V = Cert.ReferenceIdeal.Value.res_main_call4_v4 blank from rfl]
  refine guarded_gather (by decide +kernel) fun j => (gathered_arg2 m d _ _ ?_).symm
  revert j
  decide +kernel

/-- Result 6, a gather from argument 2: both programs compute the same array. -/
theorem result6 (hV : V (Proc.devRef .tc Cert.ReferenceIdeal.main_arg2) = m (tcLoc d main_arg2)) :
    after Cert.ReferenceIdeal.Value.ops V (Proc.devRef .tc Cert.ReferenceIdeal.main_v10) = final m d (Proc.devRef .tc main_v15) := by
  refine ((congrFun (Cert.ReferenceIdeal.Value.after_ops V) _).trans (Cert.ReferenceIdeal.Value.val1_main_v10 V)).trans
    (Eq.trans ?_ (final_v15 m d).symm)
  rw [hV, show Cert.ReferenceIdeal.Value.res_main_call5_v5 V = Cert.ReferenceIdeal.Value.res_main_call5_v5 blank from rfl]
  refine guarded_gather (by decide +kernel) fun j => (gathered_arg2 m d _ _ ?_).symm
  revert j
  decide +kernel

/-- Result 7, a gather from argument 3: both programs compute the same array. -/
theorem result7 (hV : V (Proc.devRef .tc Cert.ReferenceIdeal.main_arg3) = m (tcLoc d main_arg3)) :
    after Cert.ReferenceIdeal.Value.ops V (Proc.devRef .tc Cert.ReferenceIdeal.main_v12) = final m d (Proc.devRef .tc main_v17) := by
  refine ((congrFun (Cert.ReferenceIdeal.Value.after_ops V) _).trans (Cert.ReferenceIdeal.Value.val1_main_v12 V)).trans
    (Eq.trans ?_ (final_v17 m d).symm)
  rw [hV, show Cert.ReferenceIdeal.Value.res_main_call6_v5 V = Cert.ReferenceIdeal.Value.res_main_call6_v5 blank from rfl]
  refine guarded_gather (by decide +kernel) fun j => (gathered_arg3 m d _ _ ?_).symm
  revert j
  decide +kernel

/-- Result 8, a gather from argument 3: both programs compute the same array. -/
theorem result8 (hV : V (Proc.devRef .tc Cert.ReferenceIdeal.main_arg3) = m (tcLoc d main_arg3)) :
    after Cert.ReferenceIdeal.Value.ops V (Proc.devRef .tc Cert.ReferenceIdeal.main_v14) = final m d (Proc.devRef .tc main_v19) := by
  refine ((congrFun (Cert.ReferenceIdeal.Value.after_ops V) _).trans (Cert.ReferenceIdeal.Value.val1_main_v14 V)).trans
    (Eq.trans ?_ (final_v19 m d).symm)
  rw [hV, show Cert.ReferenceIdeal.Value.res_main_call7_v5 V = Cert.ReferenceIdeal.Value.res_main_call7_v5 blank from rfl]
  refine guarded_gather (by decide +kernel) fun j => (gathered_arg3 m d _ _ ?_).symm
  revert j
  decide +kernel

/-- Result 9, a gather from argument 3: both programs compute the same array. -/
theorem result9 (hV : V (Proc.devRef .tc Cert.ReferenceIdeal.main_arg3) = m (tcLoc d main_arg3)) :
    after Cert.ReferenceIdeal.Value.ops V (Proc.devRef .tc Cert.ReferenceIdeal.main_v16) = final m d (Proc.devRef .tc main_v21) := by
  refine ((congrFun (Cert.ReferenceIdeal.Value.after_ops V) _).trans (Cert.ReferenceIdeal.Value.val1_main_v16 V)).trans
    (Eq.trans ?_ (final_v21 m d).symm)
  rw [hV, show Cert.ReferenceIdeal.Value.res_main_call8_v5 V = Cert.ReferenceIdeal.Value.res_main_call8_v5 blank from rfl]
  refine guarded_gather (by decide +kernel) fun j => (gathered_arg3 m d _ _ ?_).symm
  revert j
  decide +kernel

/-- Result 10, a gather from argument 3: both programs compute the same array. -/
theorem result10 (hV : V (Proc.devRef .tc Cert.ReferenceIdeal.main_arg3) = m (tcLoc d main_arg3)) :
    after Cert.ReferenceIdeal.Value.ops V (Proc.devRef .tc Cert.ReferenceIdeal.main_v18) = final m d (Proc.devRef .tc main_v23) := by
  refine ((congrFun (Cert.ReferenceIdeal.Value.after_ops V) _).trans (Cert.ReferenceIdeal.Value.val1_main_v18 V)).trans
    (Eq.trans ?_ (final_v23 m d).symm)
  rw [hV, show Cert.ReferenceIdeal.Value.res_main_call9_v5 V = Cert.ReferenceIdeal.Value.res_main_call9_v5 blank from rfl]
  refine guarded_gather (by decide +kernel) fun j => (gathered_arg3 m d _ _ ?_).symm
  revert j
  decide +kernel

end Results

end Cert.Proof.Values

end
-- ==== Proof.lean ====
/-
  The proof of `Cert.Claim`.

  `IdealTask` proves the SparseCore call, tile by tile; `IdealRun` proves the run of the whole program, with the contents of
  every array at its end; `Values` proves that those contents are the reference's. Here the five claims are read off.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.IdealRun
public import proofs.«01_k».proof.Proof.Values
public import Idealize.ShloMosaic.Lib.StableHlo.RunHlo
public import Idealize.ShloMosaic.Adequacy
public import Idealize.ShloMosaic.Init

@[expose] public section

noncomputable section

namespace Cert.Proof

open Idealize.ShloMosaic Idealize.SL.Sem Idealize.ShloMosaic.StableHlo

/-- The program as it is, floats as bits: from every memory it runs, keeps its arguments and ends with every counter at
    zero. It has the same text as the program read at the reals, so that run, which is proved for any floats, is its own. -/
theorem frame_kernel : Cert.quiescent_Kernel (hKernel := Cert.Kernel.Gen.facts) := fun m ρ _ =>
  θ_run_mono (IdealRun.run_ends (F := Bits) m ρ) fun _ h =>
    ⟨fun c => ⟨(h.1 c _).trans (IdealRun.final_arg0 m c), (h.1 c _).trans (IdealRun.final_arg1 m c),
      (h.1 c _).trans (IdealRun.final_arg2 m c), (h.1 c _).trans (IdealRun.final_arg3 m c)⟩, h.2⟩

/-- The program read at the reals: from every memory it runs, keeps its arguments and ends with every counter at zero. -/
theorem frame_kernelIdeal : Cert.quiescent_KernelIdeal (hKernelIdeal := Cert.KernelIdeal.Gen.facts) := fun m ρ _ =>
  θ_run_mono (IdealRun.run_ends (F := Ideal) m ρ) fun _ h =>
    ⟨fun c => ⟨(h.1 c _).trans (IdealRun.final_arg0 m c), (h.1 c _).trans (IdealRun.final_arg1 m c),
      (h.1 c _).trans (IdealRun.final_arg2 m c), (h.1 c _).trans (IdealRun.final_arg3 m c)⟩, h.2⟩

/-- The reference's run: each of its arrays ends as its line of operations leaves it. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ (c : Dev Cert.ReferenceIdeal.nD) (b : Ref Cert.ReferenceIdeal.sig .tc),
        r.2.mem ((c.tc : Thread Cert.ReferenceIdeal.nD Cert.ReferenceIdeal.τ).loc b)
          = after Cert.ReferenceIdeal.Value.ops (launchContents m c) (Proc.devRef .tc b) :=
  run_seq Cert.ReferenceIdeal.Value.scopedRefs_eq Cert.ReferenceIdeal.Value.scopedSems_eq _ _ (fun _ => Cert.ReferenceIdeal.Value.ops)
    Cert.ReferenceIdeal.Value.main_eq (fun _ => Cert.ReferenceIdeal.Value.ops_sub) m ρ fun _ => Cert.ReferenceIdeal.Value.ops_fresh

/-- The reference leaves argument 0 as it was. -/
theorem reference_arg0 (m : (ℓ : Loc Cert.ReferenceIdeal.nD Cert.ReferenceIdeal.τ Cert.ReferenceIdeal.sig) → Buf (Elt Ideal) ℓ)
    (c : Dev Cert.ReferenceIdeal.nD) :
    after Cert.ReferenceIdeal.Value.ops (launchContents m c) (Proc.devRef .tc Cert.ReferenceIdeal.main_arg0)
      = m ((c.tc : Thread Cert.ReferenceIdeal.nD Cert.ReferenceIdeal.τ).loc Cert.ReferenceIdeal.main_arg0) :=
  (congrFun (Cert.ReferenceIdeal.Value.after_ops (launchContents m c)) _).trans
    (Cert.ReferenceIdeal.Value.val1_main_arg0 (launchContents m c))

/-- The reference leaves argument 1 as it was. -/
theorem reference_arg1 (m : (ℓ : Loc Cert.ReferenceIdeal.nD Cert.ReferenceIdeal.τ Cert.ReferenceIdeal.sig) → Buf (Elt Ideal) ℓ)
    (c : Dev Cert.ReferenceIdeal.nD) :
    after Cert.ReferenceIdeal.Value.ops (launchContents m c) (Proc.devRef .tc Cert.ReferenceIdeal.main_arg1)
      = m ((c.tc : Thread Cert.ReferenceIdeal.nD Cert.ReferenceIdeal.τ).loc Cert.ReferenceIdeal.main_arg1) :=
  (congrFun (Cert.ReferenceIdeal.Value.after_ops (launchContents m c)) _).trans
    (Cert.ReferenceIdeal.Value.val1_main_arg1 (launchContents m c))

/-- The reference leaves argument 2 as it was. -/
theorem reference_arg2 (m : (ℓ : Loc Cert.ReferenceIdeal.nD Cert.ReferenceIdeal.τ Cert.ReferenceIdeal.sig) → Buf (Elt Ideal) ℓ)
    (c : Dev Cert.ReferenceIdeal.nD) :
    after Cert.ReferenceIdeal.Value.ops (launchContents m c) (Proc.devRef .tc Cert.ReferenceIdeal.main_arg2)
      = m ((c.tc : Thread Cert.ReferenceIdeal.nD Cert.ReferenceIdeal.τ).loc Cert.ReferenceIdeal.main_arg2) :=
  (congrFun (Cert.ReferenceIdeal.Value.after_ops (launchContents m c)) _).trans
    (Cert.ReferenceIdeal.Value.val1_main_arg2 (launchContents m c))

/-- The reference leaves argument 3 as it was. -/
theorem reference_arg3 (m : (ℓ : Loc Cert.ReferenceIdeal.nD Cert.ReferenceIdeal.τ Cert.ReferenceIdeal.sig) → Buf (Elt Ideal) ℓ)
    (c : Dev Cert.ReferenceIdeal.nD) :
    after Cert.ReferenceIdeal.Value.ops (launchContents m c) (Proc.devRef .tc Cert.ReferenceIdeal.main_arg3)
      = m ((c.tc : Thread Cert.ReferenceIdeal.nD Cert.ReferenceIdeal.τ).loc Cert.ReferenceIdeal.main_arg3) :=
  (congrFun (Cert.ReferenceIdeal.Value.after_ops (launchContents m c)) _).trans
    (Cert.ReferenceIdeal.Value.val1_main_arg3 (launchContents m c))

/-- The reference read at the reals: from every memory it runs, keeps its arguments and ends with every counter at zero,
    for it declares none. -/
theorem frame_reference : Cert.quiescent_ReferenceIdeal (hReferenceIdeal := Cert.ReferenceIdeal.Gen.facts) := fun m ρ _ =>
  θ_run_mono (reference_run m ρ) fun r h =>
    ⟨fun c => ⟨(h c _).trans (reference_arg0 m c),
      (h c _).trans (reference_arg1 m c),
      (h c _).trans (reference_arg2 m c),
      (h c _).trans (reference_arg3 m c)⟩,
      sem_eq_zero_of_no_sems (by decide) r.2⟩

/-- From memories that agree on the four arguments both programs run and end with the same ten results, the arguments
    unchanged. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨fun c => IdealRun.final m c (Proc.devRef .tc Cert.KernelIdeal.main_v5),
    fun c => IdealRun.final m c (Proc.devRef .tc Cert.KernelIdeal.main_v7),
    fun c => IdealRun.final m c (Proc.devRef .tc Cert.KernelIdeal.main_v9),
    fun c => IdealRun.final m c (Proc.devRef .tc Cert.KernelIdeal.main_v11),
    fun c => IdealRun.final m c (Proc.devRef .tc Cert.KernelIdeal.main_v13),
    fun c => IdealRun.final m c (Proc.devRef .tc Cert.KernelIdeal.main_v15),
    fun c => IdealRun.final m c (Proc.devRef .tc Cert.KernelIdeal.main_v17),
    fun c => IdealRun.final m c (Proc.devRef .tc Cert.KernelIdeal.main_v19),
    fun c => IdealRun.final m c (Proc.devRef .tc Cert.KernelIdeal.main_v21),
    fun c => IdealRun.final m c (Proc.devRef .tc Cert.KernelIdeal.main_v23),
    θ_run_mono (IdealRun.run_ends (F := Ideal) m ρ) fun _ h c =>
      ⟨h.1 c _, h.1 c _, h.1 c _, h.1 c _, h.1 c _, h.1 c _, h.1 c _, h.1 c _, h.1 c _, h.1 c _,
        (h.1 c _).trans (IdealRun.final_arg0 m c),
        (h.1 c _).trans (IdealRun.final_arg1 m c),
        (h.1 c _).trans (IdealRun.final_arg2 m c),
        (h.1 c _).trans (IdealRun.final_arg3 m c)⟩,
    θ_run_mono (reference_run m' ρ') fun _ h c =>
      ⟨(h c _).trans (Values.result1 m c (launchContents m' c) (hm c).1),
        (h c _).trans (Values.result2 m c (launchContents m' c) (hm c).2.1),
        (h c _).trans (Values.result3 m c (launchContents m' c) (hm c).2.1),
        (h c _).trans (Values.result4 m c (launchContents m' c) (hm c).2.2.1),
        (h c _).trans (Values.result5 m c (launchContents m' c) (hm c).2.2.1),
        (h c _).trans (Values.result6 m c (launchContents m' c) (hm c).2.2.1),
        (h c _).trans (Values.result7 m c (launchContents m' c) (hm c).2.2.2),
        (h c _).trans (Values.result8 m c (launchContents m' c) (hm c).2.2.2),
        (h c _).trans (Values.result9 m c (launchContents m' c) (hm c).2.2.2),
        (h c _).trans (Values.result10 m c (launchContents m' c) (hm c).2.2.2),
        (h c _).trans (reference_arg0 m' c),
        (h c _).trans (reference_arg1 m' c),
        (h c _).trans (reference_arg2 m' c),
        (h c _).trans (reference_arg3 m' c)⟩⟩

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
